-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v20_0)) (v3 : (c : Dev Cert.KernelIdeal.nD) → Buf (Elt Ideal) ((c.tc : Thread Cert.KernelIdeal.nD Cert.KernelIdeal.τ).loc Cert.KernelIdeal.main_v20_1)) (v4 : (c : Dev Cert.KernelIdeal.nD) → Buf (Elt Ideal) ((c.tc : Thread Cert.KernelIdeal.nD Cert.KernelIdeal.τ).loc Cert.KernelIdeal.main_v21_1)) (v5 : (c : Dev Cert.KernelIdeal.nD) → Buf (Elt Ideal) ((c.tc : Thread Cert.KernelIdeal.nD Cert.KernelIdeal.τ).loc Cert.KernelIdeal.main_v21_2)) (v6 : (c : Dev Cert.KernelIdeal.nD) → Buf (Elt Ideal) ((c.tc : Thread Cert.KernelIdeal.nD Cert.KernelIdeal.τ).loc Cert.KernelIdeal.main_v21_3)) (v7 : (c : Dev Cert.KernelIdeal.nD) → Buf (Elt Ideal) ((c.tc : Thread Cert.KernelIdeal.nD Cert.KernelIdeal.τ).loc Cert.KernelIdeal.main_v21_4)) (v8 : (c : Dev Cert.KernelIdeal.nD) → Buf (Elt Ideal) ((c.tc : Thread Cert.KernelIdeal.nD Cert.KernelIdeal.τ).loc Cert.KernelIdeal.main_v23_0)) (v9 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v20_0) = v2 c
          ∧ r.2.mem ((c.tc : Thread Cert.KernelIdeal.nD Cert.KernelIdeal.τ).loc Cert.KernelIdeal.main_v20_1) = v3 c
          ∧ r.2.mem ((c.tc : Thread Cert.KernelIdeal.nD Cert.KernelIdeal.τ).loc Cert.KernelIdeal.main_v21_1) = v4 c
          ∧ r.2.mem ((c.tc : Thread Cert.KernelIdeal.nD Cert.KernelIdeal.τ).loc Cert.KernelIdeal.main_v21_2) = v5 c
          ∧ r.2.mem ((c.tc : Thread Cert.KernelIdeal.nD Cert.KernelIdeal.τ).loc Cert.KernelIdeal.main_v21_3) = v6 c
          ∧ r.2.mem ((c.tc : Thread Cert.KernelIdeal.nD Cert.KernelIdeal.τ).loc Cert.KernelIdeal.main_v21_4) = v7 c
          ∧ r.2.mem ((c.tc : Thread Cert.KernelIdeal.nD Cert.KernelIdeal.τ).loc Cert.KernelIdeal.main_v23_0) = v8 c
          ∧ r.2.mem ((c.tc : Thread Cert.KernelIdeal.nD Cert.KernelIdeal.τ).loc Cert.KernelIdeal.main_v23_1) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21_0) = v0 c
          ∧ r.2.mem ((c.tc : Thread Cert.ReferenceIdeal.nD Cert.ReferenceIdeal.τ).loc Cert.ReferenceIdeal.main_v21_1) = v1 c
          ∧ r.2.mem ((c.tc : Thread Cert.ReferenceIdeal.nD Cert.ReferenceIdeal.τ).loc Cert.ReferenceIdeal.main_v21_2) = v2 c
          ∧ r.2.mem ((c.tc : Thread Cert.ReferenceIdeal.nD Cert.ReferenceIdeal.τ).loc Cert.ReferenceIdeal.main_v21_3) = v3 c
          ∧ r.2.mem ((c.tc : Thread Cert.ReferenceIdeal.nD Cert.ReferenceIdeal.τ).loc Cert.ReferenceIdeal.main_v21_4) = v4 c
          ∧ r.2.mem ((c.tc : Thread Cert.ReferenceIdeal.nD Cert.ReferenceIdeal.τ).loc Cert.ReferenceIdeal.main_v21_5) = v5 c
          ∧ r.2.mem ((c.tc : Thread Cert.ReferenceIdeal.nD Cert.ReferenceIdeal.τ).loc Cert.ReferenceIdeal.main_v21_6) = v6 c
          ∧ r.2.mem ((c.tc : Thread Cert.ReferenceIdeal.nD Cert.ReferenceIdeal.τ).loc Cert.ReferenceIdeal.main_v21_7) = v7 c
          ∧ r.2.mem ((c.tc : Thread Cert.ReferenceIdeal.nD Cert.ReferenceIdeal.τ).loc Cert.ReferenceIdeal.main_v21_8) = v8 c
          ∧ r.2.mem ((c.tc : Thread Cert.ReferenceIdeal.nD Cert.ReferenceIdeal.τ).loc Cert.ReferenceIdeal.main_v21_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x4096 : Shape := ⟨3, ![3, 2048, 4096]⟩
abbrev S3x2048 : Shape := ⟨2, ![3, 2048]⟩
abbrev S4096 : Shape := ⟨1, ![4096]⟩
abbrev S4096x37376 : Shape := ⟨2, ![4096, 37376]⟩
abbrev S37376 : Shape := ⟨1, ![37376]⟩
abbrev S16384x4096 : Shape := ⟨2, ![16384, 4096]⟩
abbrev S6144x4096 : Shape := ⟨2, ![6144, 4096]⟩
abbrev S1x37376 : Shape := ⟨2, ![1, 37376]⟩
abbrev S1x4096 : Shape := ⟨2, ![1, 4096]⟩
abbrev S128 : Shape := ⟨1, ![128]⟩
abbrev S_ : Shape := ⟨0, ![]⟩
abbrev S6144x1 : Shape := ⟨2, ![6144, 1]⟩
abbrev S1x128 : Shape := ⟨2, ![1, 128]⟩
abbrev S6144x128 : Shape := ⟨2, ![6144, 128]⟩
abbrev S256x4096 : Shape := ⟨2, ![256, 4096]⟩
abbrev S256x1 : Shape := ⟨2, ![256, 1]⟩
abbrev S256 : Shape := ⟨1, ![256]⟩
abbrev S6144x256 : Shape := ⟨2, ![6144, 256]⟩
abbrev S1024x4096 : Shape := ⟨2, ![1024, 4096]⟩
abbrev S1024x1 : Shape := ⟨2, ![1024, 1]⟩
abbrev S4096x512 : Shape := ⟨2, ![4096, 512]⟩
abbrev S1x512 : Shape := ⟨2, ![1, 512]⟩
abbrev S1024x128 : Shape := ⟨2, ![1024, 128]⟩
abbrev S1024x512 : Shape := ⟨2, ![1024, 512]⟩
abbrev S1024x256 : Shape := ⟨2, ![1024, 256]⟩
abbrev S1024 : Shape := ⟨1, ![1024]⟩
abbrev S6144x16384 : Shape := ⟨2, ![6144, 16384]⟩
abbrev S128x16384 : Shape := ⟨2, ![128, 16384]⟩
abbrev S128x128 : Shape := ⟨2, ![128, 128]⟩
abbrev S128x1 : Shape := ⟨2, ![128, 1]⟩
abbrev S1024x16384 : Shape := ⟨2, ![1024, 16384]⟩
abbrev S16384x512 : Shape := ⟨2, ![16384, 512]⟩

abbrev nBuf : Space → Nat
  | .hbm => 42
  | .vmem => 65
  | .smem => 0
  | _ => 0

abbrev bufTy : (tb : Table) → Fin (tcTables nBuf tb) → BufTy
  | .hbm, ⟨0, _⟩ => ⟨S3x2048x4096, .bf16⟩
  | .hbm, ⟨1, _⟩ => ⟨S3x2048, .i32⟩
  | .hbm, ⟨2, _⟩ => ⟨S4096, .f32⟩
  | .hbm, ⟨3, _⟩ => ⟨S4096x37376, .fp8e4m3⟩
  | .hbm, ⟨4, _⟩ => ⟨S37376, .f32⟩
  | .hbm, ⟨5, _⟩ => ⟨S16384x4096, .fp8e4m3⟩
  | .hbm, ⟨6, _⟩ => ⟨S4096, .f32⟩
  | .hbm, ⟨7, _⟩ => ⟨S6144x4096, .bf16⟩
  | .hbm, ⟨8, _⟩ => ⟨S1x37376, .f32⟩
  | .hbm, ⟨9, _⟩ => ⟨S1x4096, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S6144x1, .i32⟩
  | .hbm, ⟨22, _⟩ => ⟨S6144x1, .f32⟩
  | .hbm, ⟨23, _⟩ => ⟨S1x128, .f32⟩
  | .hbm, ⟨24, _⟩ => ⟨S6144x128, .f32⟩
  | .hbm, ⟨25, _⟩ => ⟨S6144x128, .f32⟩
  | .hbm, ⟨26, _⟩ => ⟨S6144x128, .f32⟩
  | .hbm, ⟨27, _⟩ => ⟨S6144x128, .f32⟩
  | .hbm, ⟨28, _⟩ => ⟨S6144x128, .f32⟩
  | .hbm, ⟨29, _⟩ => ⟨S1x4096, .f32⟩
  | .hbm, ⟨30, _⟩ => ⟨S6144x4096, .fp8e4m3⟩
  | .hbm, ⟨31, _⟩ => ⟨S6144x1, .f32⟩
  | .hbm, ⟨32, _⟩ => ⟨S6144x4096, .bf16⟩
  | .hbm, ⟨33, _⟩ => ⟨S6144x256, .fp8e4m3⟩
  | .hbm, ⟨34, _⟩ => ⟨S6144x1, .f32⟩
  | .hbm, ⟨35, _⟩ => ⟨S6144x256, .fp8e4m3⟩
  | .hbm, ⟨36, _⟩ => ⟨S6144x1, .f32⟩
  | .hbm, ⟨37, _⟩ => ⟨S6144x16384, .f32⟩
  | .hbm, ⟨38, _⟩ => ⟨S6144x128, .f32⟩
  | .hbm, ⟨39, _⟩ => ⟨S6144x16384, .fp8e4m3⟩
  | .hbm, ⟨40, _⟩ => ⟨S6144x1, .f32⟩
  | .hbm, ⟨41, _⟩ => ⟨S6144x4096, .bf16⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S256x4096, .fp8e4m3⟩
  | .local _ .vmem, ⟨4, _⟩ => ⟨S256x4096, .fp8e4m3⟩
  | .local _ .vmem, ⟨5, _⟩ => ⟨S256x1, .f32⟩
  | .local _ .vmem, ⟨6, _⟩ => ⟨S256x1, .f32⟩
  | .local _ .vmem, ⟨7, _⟩ => ⟨S1024x4096, .fp8e4m3⟩
  | .local _ .vmem, ⟨8, _⟩ => ⟨S1024x4096, .fp8e4m3⟩
  | .local _ .vmem, ⟨9, _⟩ => ⟨S1024x1, .f32⟩
  | .local _ .vmem, ⟨10, _⟩ => ⟨S1024x1, .f32⟩
  | .local _ .vmem, ⟨11, _⟩ => ⟨S4096x512, .fp8e4m3⟩
  | .local _ .vmem, ⟨12, _⟩ => ⟨S4096x512, .fp8e4m3⟩
  | .local _ .vmem, ⟨13, _⟩ => ⟨S1x512, .f32⟩
  | .local _ .vmem, ⟨14, _⟩ => ⟨S1x512, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x512, .bf16⟩
  | .local _ .vmem, ⟨20, _⟩ => ⟨S1024x512, .bf16⟩
  | .local _ .vmem, ⟨21, _⟩ => ⟨S1024x256, .fp8e4m3⟩
  | .local _ .vmem, ⟨22, _⟩ => ⟨S1024x256, .fp8e4m3⟩
  | .local _ .vmem, ⟨23, _⟩ => ⟨S1024x1, .f32⟩
  | .local _ .vmem, ⟨24, _⟩ => ⟨S1024x1, .f32⟩
  | .local _ .vmem, ⟨25, _⟩ => ⟨S1024x256, .fp8e4m3⟩
  | .local _ .vmem, ⟨26, _⟩ => ⟨S1024x256, .fp8e4m3⟩
  | .local _ .vmem, ⟨27, _⟩ => ⟨S1024x1, .f32⟩
  | .local _ .vmem, ⟨28, _⟩ => ⟨S1024x1, .f32⟩
  | .local _ .vmem, ⟨29, _⟩ => ⟨S1024x4096, .fp8e4m3⟩
  | .local _ .vmem, ⟨30, _⟩ => ⟨S1024x4096, .fp8e4m3⟩
  | .local _ .vmem, ⟨31, _⟩ => ⟨S1024x1, .f32⟩
  | .local _ .vmem, ⟨32, _⟩ => ⟨S1024x1, .f32⟩
  | .local _ .vmem, ⟨33, _⟩ => ⟨S4096x512, .fp8e4m3⟩
  | .local _ .vmem, ⟨34, _⟩ => ⟨S4096x512, .fp8e4m3⟩
  | .local _ .vmem, ⟨35, _⟩ => ⟨S4096x512, .fp8e4m3⟩
  | .local _ .vmem, ⟨36, _⟩ => ⟨S4096x512, .fp8e4m3⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1024x512, .f32⟩
  | .local _ .vmem, ⟨42, _⟩ => ⟨S1024x512, .f32⟩
  | .local _ .vmem, ⟨43, _⟩ => ⟨S1024x128, .f32⟩
  | .local _ .vmem, ⟨44, _⟩ => ⟨S1024x128, .f32⟩
  | .local _ .vmem, ⟨45, _⟩ => ⟨S128x16384, .f32⟩
  | .local _ .vmem, ⟨46, _⟩ => ⟨S128x16384, .f32⟩
  | .local _ .vmem, ⟨47, _⟩ => ⟨S128x128, .f32⟩
  | .local _ .vmem, ⟨48, _⟩ => ⟨S128x128, .f32⟩
  | .local _ .vmem, ⟨49, _⟩ => ⟨S128x16384, .fp8e4m3⟩
  | .local _ .vmem, ⟨50, _⟩ => ⟨S128x16384, .fp8e4m3⟩
  | .local _ .vmem, ⟨51, _⟩ => ⟨S128x1, .f32⟩
  | .local _ .vmem, ⟨52, _⟩ => ⟨S128x1, .f32⟩
  | .local _ .vmem, ⟨53, _⟩ => ⟨S1024x16384, .fp8e4m3⟩
  | .local _ .vmem, ⟨54, _⟩ => ⟨S1024x16384, .fp8e4m3⟩
  | .local _ .vmem, ⟨55, _⟩ => ⟨S1024x1, .f32⟩
  | .local _ .vmem, ⟨56, _⟩ => ⟨S1024x1, .f32⟩
  | .local _ .vmem, ⟨57, _⟩ => ⟨S16384x512, .fp8e4m3⟩
  | .local _ .vmem, ⟨58, _⟩ => ⟨S16384x512, .fp8e4m3⟩
  | .local _ .vmem, ⟨59, _⟩ => ⟨S1x512, .f32⟩
  | .local _ .vmem, ⟨60, _⟩ => ⟨S1x512, .f32⟩
  | .local _ .vmem, ⟨61, _⟩ => ⟨S1024x512, .bf16⟩
  | .local _ .vmem, ⟨62, _⟩ => ⟨S1024x512, .bf16⟩
  | .local _ .vmem, ⟨63, _⟩ => ⟨S1024x512, .bf16⟩
  | .local _ .vmem, ⟨64, _⟩ => ⟨S1024x512, .bf16⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev main_v22_0 : Ref sig .tc := ⟨.hbm, 37, rfl⟩
abbrev main_v22_1 : Ref sig .tc := ⟨.hbm, 38, rfl⟩
abbrev main_v23_0 : Ref sig .tc := ⟨.hbm, 39, rfl⟩
abbrev main_v23_1 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc2_stg6_0 : Ref sig .tc := ⟨.vmem, 41, rfl⟩
abbrev cc2_stg6_1 : Ref sig .tc := ⟨.vmem, 42, rfl⟩
abbrev cc2_stg7_0 : Ref sig .tc := ⟨.vmem, 43, rfl⟩
abbrev cc2_stg7_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg1_1 : Ref sig .tc := ⟨.vmem, 56, rfl⟩
abbrev cc4_stg2_0 : Ref sig .tc := ⟨.vmem, 57, rfl⟩
abbrev cc4_stg2_1 : Ref sig .tc := ⟨.vmem, 58, rfl⟩
abbrev cc4_stg3_0 : Ref sig .tc := ⟨.vmem, 59, rfl⟩
abbrev cc4_stg3_1 : Ref sig .tc := ⟨.vmem, 60, rfl⟩
abbrev cc4_stg4_0 : Ref sig .tc := ⟨.vmem, 61, rfl⟩
abbrev cc4_stg4_1 : Ref sig .tc := ⟨.vmem, 62, rfl⟩
abbrev cc4_stg5_0 : Ref sig .tc := ⟨.vmem, 63, rfl⟩
abbrev cc4_stg5_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem5_1 : DmaSem sig := 40
abbrev cc2_sem6_0 : DmaSem sig := 41
abbrev cc2_sem6_1 : DmaSem sig := 42
abbrev cc2_sem7_0 : DmaSem sig := 43
abbrev cc2_sem7_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem3_1 : DmaSem sig := 52
abbrev cc4_sem0_0 : DmaSem sig := 53
abbrev cc4_sem0_1 : DmaSem sig := 54
abbrev cc4_sem1_0 : DmaSem sig := 55
abbrev cc4_sem1_1 : DmaSem sig := 56
abbrev cc4_sem2_0 : DmaSem sig := 57
abbrev cc4_sem2_1 : DmaSem sig := 58
abbrev cc4_sem3_0 : DmaSem sig := 59
abbrev cc4_sem3_1 : DmaSem sig := 60
abbrev cc4_sem4_0 : DmaSem sig := 61
abbrev cc4_sem4_1 : DmaSem sig := 62
abbrev cc4_sem5_0 : DmaSem sig := 63
abbrev cc4_sem5_1 : DmaSem sig := 64

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![6, 9], ![false, false]⟩

def k1_cond1 (i : grid1.Coords) : BitVec 1 :=
  let arg1 : BitVec 32 := BitVec.ofNat 32 (i 1).val
  let c8_i32 : BitVec 32 := 8#32
  let v16 : BitVec 1 := Scalar.cmpi .eq arg1 c8_i32
  let v_true : BitVec 1 := 1#1
  let v27 : BitVec 1 := Scalar.xori v16 v_true
  let v28 : BitVec 32 := Scalar.extui v27
  let c0_i32 : BitVec 32 := 0#32
  let v29 : BitVec 1 := Scalar.cmpi .ne v28 c0_i32
  v29

def k1_cond2 (i : grid1.Coords) : BitVec 1 :=
  let arg1 : BitVec 32 := BitVec.ofNat 32 (i 1).val
  let c8_i32 : BitVec 32 := 8#32
  let v16 : BitVec 1 := Scalar.cmpi .eq arg1 c8_i32
  let v30 : BitVec 32 := Scalar.extui v16
  let c0_i32_11 : BitVec 32 := 0#32
  let v31 : BitVec 1 := Scalar.cmpi .ne v30 c0_i32_11
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x256 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1024x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1024x256 .fp8e4m3 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1024x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![6, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c41_i32 : BitVec 32 := 41#32
  let v0 : BitVec 32 := Scalar.addi c41_i32 arg1
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  let c0_i32_0 : BitVec 32 := 0#32
  ![c0_i32.toNat, v0.toNat]

def cc2_transform_5 (i : grid2.Coords) : Fin 2 → Nat :=
  let arg0 : BitVec 32 := BitVec.ofNat 32 (i 0).val
  let arg1 : BitVec 32 := BitVec.ofNat 32 (i 1).val
  let c41_i32 : BitVec 32 := 41#32
  let v0 : BitVec 32 := Scalar.addi c41_i32 arg1
  let c0_i32 : BitVec 32 := 0#32
  let c0_i32_0 : BitVec 32 := 0#32
  ![c0_i32.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4096x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S4096x512 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![48], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x16384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x16384 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![6, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x16384 .fp8e4m3 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S16384x512 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1024x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]
-- ==== ReferenceIdeal.lean ====
abbrev S3x2048x4096 : Shape := ⟨3, ![3, 2048, 4096]⟩
abbrev S3x2048 : Shape := ⟨2, ![3, 2048]⟩
abbrev S4096 : Shape := ⟨1, ![4096]⟩
abbrev S4096x37376 : Shape := ⟨2, ![4096, 37376]⟩
abbrev S37376 : Shape := ⟨1, ![37376]⟩
abbrev S16384x4096 : Shape := ⟨2, ![16384, 4096]⟩
abbrev S246 : Shape := ⟨1, ![246]⟩
abbrev S128 : Shape := ⟨1, ![128]⟩
abbrev S_ : Shape := ⟨0, ![]⟩
abbrev S6144x1 : Shape := ⟨2, ![6144, 1]⟩
abbrev S1x128 : Shape := ⟨2, ![1, 128]⟩
abbrev S6144x128 : Shape := ⟨2, ![6144, 128]⟩
abbrev S1x246 : Shape := ⟨2, ![1, 246]⟩
abbrev S6144x4096 : Shape := ⟨2, ![6144, 4096]⟩
abbrev S1x4096 : Shape := ⟨2, ![1, 4096]⟩
abbrev S1x37376 : Shape := ⟨2, ![1, 37376]⟩
abbrev S6144x256 : Shape := ⟨2, ![6144, 256]⟩
abbrev S6144x16384 : Shape := ⟨2, ![6144, 16384]⟩
abbrev S6144 : Shape := ⟨1, ![6144]⟩
abbrev S6144x246 : Shape := ⟨2, ![6144, 246]⟩
abbrev S6144x37376 : Shape := ⟨2, ![6144, 37376]⟩
abbrev S6144x16x256 : Shape := ⟨3, ![6144, 16, 256]⟩
abbrev S6144x1x128 : Shape := ⟨3, ![6144, 1, 128]⟩
abbrev S6144x16x128 : Shape := ⟨3, ![6144, 16, 128]⟩

abbrev nBuf : Space → Nat
  | .hbm => 42
  | .vmem => 19
  | .smem => 0
  | _ => 0

abbrev bufTy : (tb : Table) → Fin (tcTables nBuf tb) → BufTy
  | .hbm, ⟨0, _⟩ => ⟨S3x2048x4096, .bf16⟩
  | .hbm, ⟨1, _⟩ => ⟨S3x2048, .i32⟩
  | .hbm, ⟨2, _⟩ => ⟨S4096, .f32⟩
  | .hbm, ⟨3, _⟩ => ⟨S4096x37376, .fp8e4m3⟩
  | .hbm, ⟨4, _⟩ => ⟨S37376, .f32⟩
  | .hbm, ⟨5, _⟩ => ⟨S16384x4096, .fp8e4m3⟩
  | .hbm, ⟨6, _⟩ => ⟨S4096, .f32⟩
  | .hbm, ⟨7, _⟩ => ⟨S246, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S6144x1, .i32⟩
  | .hbm, ⟨20, _⟩ => ⟨S6144x1, .f32⟩
  | .hbm, ⟨21, _⟩ => ⟨S1x128, .f32⟩
  | .hbm, ⟨22, _⟩ => ⟨S6144x128, .f32⟩
  | .hbm, ⟨23, _⟩ => ⟨S6144x128, .f32⟩
  | .hbm, ⟨24, _⟩ => ⟨S6144x128, .f32⟩
  | .hbm, ⟨25, _⟩ => ⟨S1x246, .f32⟩
  | .hbm, ⟨26, _⟩ => ⟨S6144x4096, .bf16⟩
  | .hbm, ⟨27, _⟩ => ⟨S1x4096, .f32⟩
  | .hbm, ⟨28, _⟩ => ⟨S1x37376, .f32⟩
  | .hbm, ⟨29, _⟩ => ⟨S1x4096, .f32⟩
  | .hbm, ⟨30, _⟩ => ⟨S6144x128, .f32⟩
  | .hbm, ⟨31, _⟩ => ⟨S6144x128, .f32⟩
  | .hbm, ⟨32, _⟩ => ⟨S6144x4096, .bf16⟩
  | .hbm, ⟨33, _⟩ => ⟨S6144x4096, .bf16⟩
  | .hbm, ⟨34, _⟩ => ⟨S6144x4096, .fp8e4m3⟩
  | .hbm, ⟨35, _⟩ => ⟨S6144x1, .f32⟩
  | .hbm, ⟨36, _⟩ => ⟨S6144x256, .fp8e4m3⟩
  | .hbm, ⟨37, _⟩ => ⟨S6144x1, .f32⟩
  | .hbm, ⟨38, _⟩ => ⟨S6144x256, .fp8e4m3⟩
  | .hbm, ⟨39, _⟩ => ⟨S6144x1, .f32⟩
  | .hbm, ⟨40, _⟩ => ⟨S6144x16384, .fp8e4m3⟩
  | .hbm, ⟨41, _⟩ => ⟨S6144x1, .f32⟩
  | .local _ .vmem, ⟨0, _⟩ => ⟨S6144x4096, .bf16⟩
  | .local _ .vmem, ⟨1, _⟩ => ⟨S1x4096, .f32⟩
  | .local _ .vmem, ⟨2, _⟩ => ⟨S4096x37376, .fp8e4m3⟩
  | .local _ .vmem, ⟨3, _⟩ => ⟨S1x37376, .f32⟩
  | .local _ .vmem, ⟨4, _⟩ => ⟨S16384x4096, .fp8e4m3⟩
  | .local _ .vmem, ⟨5, _⟩ => ⟨S1x4096, .f32⟩
  | .local _ .vmem, ⟨6, _⟩ => ⟨S6144x128, .f32⟩
  | .local _ .vmem, ⟨7, _⟩ => ⟨S6144x128, .f32⟩
  | .local _ .vmem, ⟨8, _⟩ => ⟨S1x246, .f32⟩
  | .local _ .vmem, ⟨9, _⟩ => ⟨S6144x4096, .bf16⟩
  | .local _ .vmem, ⟨10, _⟩ => ⟨S6144x4096, .bf16⟩
  | .local _ .vmem, ⟨11, _⟩ => ⟨S6144x4096, .fp8e4m3⟩
  | .local _ .vmem, ⟨12, _⟩ => ⟨S6144x1, .f32⟩
  | .local _ .vmem, ⟨13, _⟩ => ⟨S6144x256, .fp8e4m3⟩
  | .local _ .vmem, ⟨14, _⟩ => ⟨S6144x1, .f32⟩
  | .local _ .vmem, ⟨15, _⟩ => ⟨S6144x256, .fp8e4m3⟩
  | .local _ .vmem, ⟨16, _⟩ => ⟨S6144x1, .f32⟩
  | .local _ .vmem, ⟨17, _⟩ => ⟨S6144x16384, .fp8e4m3⟩
  | .local _ .vmem, ⟨18, _⟩ => ⟨S6144x1, .f32⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev main_v21_5 : Ref sig .tc := ⟨.hbm, 37, rfl⟩
abbrev main_v21_6 : Ref sig .tc := ⟨.hbm, 38, rfl⟩
abbrev main_v21_7 : Ref sig .tc := ⟨.hbm, 39, rfl⟩
abbrev main_v21_8 : Ref sig .tc := ⟨.hbm, 40, rfl⟩
abbrev main_v21_9 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S6144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x37376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x37376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x246 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6144x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6144x256 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6144x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6144x256 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6144x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6144x16384 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6144x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Bits.Region0.lean ====
/- The first call (norm_quant): its blocks, what its body leaves, its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x4096 := Rect.unit (s := S256x4096) ![0, 0] S256x4096.size inb_S256x4096_S256x4096_0_0
abbrev r0_1 : Rect S1x4096 := Rect.unit (s := S1x4096) ![0, 0] S1x4096.size inb_S1x4096_S1x4096_0_0
abbrev r0_2 : Rect S256x1 := Rect.unit (s := S256x1) ![0, 0] S256x1.size inb_S256x1_S256x1_0_0

def k0_pay15 (x0 : Vec F S256x4096 .bf16) (x1 : Vec F S1x4096 .f32) : FVec F S256x1 .f32 :=
  k0_pay3 (View.ld x0 r0_0) (View.ld x1 r0_1) -- `v21`
def k0_pay16 (x0 : Vec F S256x4096 .bf16) (x1 : Vec F S1x4096 .f32) : IVec S256x1 32 :=
  k0_pay4 (View.ld x0 r0_0) (View.ld x1 r0_1) -- `v33`
def k0_pay17 (x0 : Vec F S256x4096 .bf16) (x1 : Vec F S1x4096 .f32) : IVec S256x1 32 :=
  k0_pay5 (View.ld x0 r0_0) (View.ld x1 r0_1) -- `v35`
def k0_pay18 (x0 : Vec F S256x4096 .bf16) (x1 : Vec F S1x4096 .f32) : IVec S256x1 32 :=
  k0_pay6 (View.ld x0 r0_0) (View.ld x1 r0_1) -- `v39`
def k0_pay19 (x0 : Vec F S256x4096 .bf16) (x1 : Vec F S1x4096 .f32) : IVec S256x1 32 :=
  k0_pay7 -- `v40`
def k0_pay20 (x0 : Vec F S256x4096 .bf16) (x1 : Vec F S1x4096 .f32) : IVec S256x1 32 :=
  k0_pay8 (k0_pay15 x0 x1) (k0_pay16 x0 x1) (k0_pay17 x0 x1) (k0_pay18 x0 x1) (k0_pay19 x0 x1) -- `v77`
def k0_pay21 (x0 : Vec F S256x4096 .bf16) (x1 : Vec F S1x4096 .f32) : IVec S256x1 32 :=
  k0_pay9 (k0_pay15 x0 x1) (k0_pay16 x0 x1) (k0_pay17 x0 x1) (k0_pay18 x0 x1) (k0_pay19 x0 x1) -- `v79`
def k0_pay22 (x0 : Vec F S256x4096 .bf16) (x1 : Vec F S1x4096 .f32) : IVec S256x1 32 :=
  k0_pay10 (k0_pay15 x0 x1) (k0_pay16 x0 x1) (k0_pay17 x0 x1) (k0_pay18 x0 x1) (k0_pay19 x0 x1) -- `v83`
def k0_pay23 (x0 : Vec F S256x4096 .bf16) (x1 : Vec F S1x4096 .f32) : IVec S256x1 32 :=
  k0_pay11 -- `v84`

def out0_2 (x0 : Vec F S256x4096 .bf16) (x1 : Vec F S1x4096 .f32) : Vec F S256x4096 .fp8e4m3 :=
  View.canon [⟨r0_0, k0_pay1 (k0_pay2 (View.ld x0 r0_0) (View.ld x1 r0_1)) (k0_pay14 (k0_pay15 x0 x1) (k0_pay20 x0 x1) (k0_pay21 x0 x1) (k0_pay22 x0 x1) (k0_pay23 x0 x1))⟩]

theorem cover0_2 (p0 : Vec F S256x4096 .fp8e4m3) (y : S256x4096.Idx) :
    ∃ pc ∈ ([⟨r0_0, p0⟩] : List (View.Piece (Elt F) S256x4096 .fp8e4m3)), y ∈ pc.1.set :=
  View.cover_of_tiled [⟨r0_0, p0⟩] S256x4096.size (by rfl) y

def out0_3 (x0 : Vec F S256x4096 .bf16) (x1 : Vec F S1x4096 .f32) : Vec F S256x1 .f32 :=
  View.canon [⟨r0_2, k0_pay13 (k0_pay15 x0 x1) (k0_pay20 x0 x1) (k0_pay21 x0 x1) (k0_pay22 x0 x1) (k0_pay23 x0 x1)⟩]

theorem cover0_3 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

set_option maxHeartbeats 1000000 in
theorem sound_kernel0 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S256x1 .f32) (harg4 : arg4.IsWhole)
    (x0 : Vec F S256x4096 .bf16) (x1 : Vec F S1x4096 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0_norm_quant i arg1 harg1 arg2 harg2 arg3 harg3 arg4 harg4) K := by
  simp only [cc0_norm_quant_eq_skeleton]; unfold cc0_norm_quant_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  iexists _; isplitr
  swap; · iexact H3
  ipureintro
  refine (View.read_writes_eq_canon _ _ _ (cover0_3 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.Bits.Region1.lean ====
/- The second call (qkv): its blocks, what its body leaves at each point of its grid, its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := k1_cond1 i = 1#1
theorem hcond1_0 : ∀ t : Fin cfg1.N, cond1_0 (grid1.coords t) ↔ t.val % 9 ≤ 7 :=
  (by decide +kernel : ∀ t : Fin grid1.N, cond1_0 (grid1.coords t) ↔ t.val % 9 ≤ 7)

abbrev cond1_1 (i : grid1.Coords) : Prop := k1_cond2 i = 1#1
theorem hcond1_1 : ∀ t : Fin cfg1.N, cond1_1 (grid1.coords t) ↔ t.val % 9 = 8 :=
  (fun t => by
    have ht : t.val < 54 := Nat.lt_of_lt_of_eq t.isLt N_1
    have e0 : (grid1.coords t 0).val = t.val / 9 % 6 := Pipeline.Grid.coords_val t 0 (by decide) rfl
    have e1 : (grid1.coords t 1).val = t.val / 1 % 9 := Pipeline.Grid.coords_val t 1 (by decide) rfl
    simp only [cond1_1, k1_cond2, e0, e1]
    word_cmp
   : ∀ t : Fin grid1.N, cond1_1 (grid1.coords t) ↔ t.val % 9 = 8)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6_A : ∀ t : Fin cfg1.N, cond1_0 (grid1.coords t) → ¬cond1_1 (grid1.coords t) → cfg1.idle 6 (grid1.coords t) = false := by decide +kernel
theorem idleAt1_6_B : ∀ t : Fin cfg1.N, ¬cond1_0 (grid1.coords t) → cond1_1 (grid1.coords t) → cfg1.idle 6 (grid1.coords t) = true := by decide +kernel
theorem flushAt1_6_B : ∀ t : Fin cfg1.N, ¬cond1_0 (grid1.coords t) → cond1_1 (grid1.coords t) → (cfg1.win 6).flush t = true := by decide +kernel
theorem prevLive1_6 : ∀ t : Fin cfg1.N, t.val % 9 = 8 → cfg1.idle 6 (grid1.coords ⟨t.val - 1, Nat.lt_of_le_of_lt (Nat.sub_le _ _) t.isLt⟩) = false := by decide +kernel
theorem prevKeep1_6 : ∀ t : Fin cfg1.N, t.val % 9 = 8 → (cfg1.win 6).flush ⟨t.val - 1, Nat.lt_of_le_of_lt (Nat.sub_le _ _) t.isLt⟩ = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem liveAt1_7_B : ∀ t : Fin cfg1.N, ¬cond1_0 (grid1.coords t) → cond1_1 (grid1.coords t) → cfg1.idle 7 (grid1.coords t) = false := by decide +kernel
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
theorem liveAt1_8_B : ∀ t : Fin cfg1.N, ¬cond1_0 (grid1.coords t) → cond1_1 (grid1.coords t) → cfg1.idle 8 (grid1.coords t) = false := by decide +kernel
theorem idleAt1_9_A : ∀ t : Fin cfg1.N, cond1_0 (grid1.coords t) → ¬cond1_1 (grid1.coords t) → cfg1.idle 9 (grid1.coords t) = true := by decide +kernel
theorem noFlush1_9_A : ∀ t : Fin cfg1.N, cond1_0 (grid1.coords t) → ¬cond1_1 (grid1.coords t) → (cfg1.win 9).flush t = false := by decide +kernel
theorem liveAt1_9_B : ∀ t : Fin cfg1.N, ¬cond1_0 (grid1.coords t) → cond1_1 (grid1.coords t) → cfg1.idle 9 (grid1.coords t) = false := by decide +kernel
theorem idleAt1_10_A : ∀ t : Fin cfg1.N, cond1_0 (grid1.coords t) → ¬cond1_1 (grid1.coords t) → cfg1.idle 10 (grid1.coords t) = true := by decide +kernel
theorem noFlush1_10_A : ∀ t : Fin cfg1.N, cond1_0 (grid1.coords t) → ¬cond1_1 (grid1.coords t) → (cfg1.win 10).flush t = false := by decide +kernel
theorem liveAt1_10_B : ∀ t : Fin cfg1.N, ¬cond1_0 (grid1.coords t) → cond1_1 (grid1.coords t) → cfg1.idle 10 (grid1.coords t) = false := by decide +kernel

abbrev VO1_6 : View sig .tc .vmem S1024x512 .bf16 := (Memref.whole cc1_stg6_0 : Memref sig .tc .vmem S1024x512 .bf16).view
abbrev VO1_7 : View sig .tc .vmem S1024x256 .fp8e4m3 := (Memref.whole cc1_stg7_0 : Memref sig .tc .vmem S1024x256 .fp8e4m3).view
abbrev VO1_8 : View sig .tc .vmem S1024x1 .f32 := (Memref.whole cc1_stg8_0 : Memref sig .tc .vmem S1024x1 .f32).view
abbrev VO1_9 : View sig .tc .vmem S1024x256 .fp8e4m3 := (Memref.whole cc1_stg9_0 : Memref sig .tc .vmem S1024x256 .fp8e4m3).view
abbrev VO1_10 : View sig .tc .vmem S1024x1 .f32 := (Memref.whole cc1_stg10_0 : Memref sig .tc .vmem S1024x1 .f32).view
abbrev ms1_0 (t : Fin cfg1.N) : Memref sig .tc .vmem S1024x4096 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x256 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x256 .fp8e4m3 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x1 .f32 := win1_10.stage (cfg1.slots t 10)
abbrev hs1_10 (t : Fin cfg1.N) : (ms1_10 t).IsWhole := hstage1_10 ((cfg1.slots t 10).cast nbuf1_10)

set_option maxHeartbeats 1000000 in
noncomputable def kernelRun1_A (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) :
    Σ' (L6 : List (View.Piece (Elt F) S1024x512 .bf16)), Σ' (L7 : List (View.Piece (Elt F) S1024x256 .fp8e4m3)), Σ' (L8 : List (View.Piece (Elt F) S1024x1 .f32)), Σ' (L9 : List (View.Piece (Elt F) S1024x256 .fp8e4m3)), { L10 : List (View.Piece (Elt F) S1024x1 .f32) //
      ∀ (xi7 : Vec F S1024x256 .fp8e4m3) (xi8 : Vec F S1024x1 .f32) (xi9 : Vec F S1024x256 .fp8e4m3) (xi10 : Vec F S1024x1 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xi10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ owns (c : Thread nD τ) arg12 fullShare xi10) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12) K } := by
  refine ⟨?_, [], [], [], [], fun xi7 xi8 xi9 xi10 E K => ?run⟩
  case run =>
    simp only [cc1_qkv_eq_skeleton]; unfold cc1_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10

theorem cover1_A_6 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x512.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1 S1024x256.size (by sl_kernel_rfl) y

def out1_A_6 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x512 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1)

def out1_A_7 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.1)

def out1_A_8 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

def out1_A_9 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

def out1_A_10 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

set_option maxHeartbeats 1000000 in
noncomputable def kernelRun1_B (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) :
    Σ' (L6 : List (View.Piece (Elt F) S1024x512 .bf16)), Σ' (L7 : List (View.Piece (Elt F) S1024x256 .fp8e4m3)), Σ' (L8 : List (View.Piece (Elt F) S1024x1 .f32)), Σ' (L9 : List (View.Piece (Elt F) S1024x256 .fp8e4m3)), { L10 : List (View.Piece (Elt F) S1024x1 .f32) //
      ∀ (xi6 : Vec F S1024x512 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc1_qkv_eq_skeleton]; unfold cc1_qkv_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact H10

theorem cover1_B_7 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.1 S1024x256.size (by sl_kernel_rfl) y

def out1_B_7 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.1)

theorem cover1_B_8 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

def out1_B_8 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.1)

theorem cover1_B_9 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1024x256.size (by sl_kernel_rfl) y

def out1_B_9 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

theorem cover1_B_10 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1024x1.size (by sl_kernel_rfl) y

def out1_B_10 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

def outsAt1 (c : Dev nD) : (n : ℕ) → n < cfg1.N → Vec F S1024x512 .bf16 × Vec F S1024x256 .fp8e4m3 × Vec F S1024x1 .f32 × Vec F S1024x256 .fp8e4m3 × Vec F S1024x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 9 ≤ 7 then
      if h1 : (n + 1) % 9 = 8 then
        False.elim (by have hN : n + 1 < 54 := lt_of_lt_of_eq hn (show cfg1.N = 54 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 9 = 8 then
        ((outsAt1 c n (by omega)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
      else
        False.elim (by have hN : n + 1 < 54 := lt_of_lt_of_eq hn (show cfg1.N = 54 from N_1); omega)

theorem outsAt1_A (c : Dev nD) (t : Fin cfg1.N) (h0 : t.val % 9 ≤ 7) (h1 : ¬t.val % 9 = 8) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 9 ≤ 7) (h1 : t.val % 9 = 8) :
    outsAt1 V c t.val t.isLt = ((outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t), out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t), out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t), out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t)) := by
  obtain ⟨n, hn⟩ := t
  cases n with
  | zero => exact (by exfalso; (try dsimp only at h0); exact by omega)
  | succ n => exact (dif_neg h0).trans ((dif_pos h1).trans rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
    | ⟨9, _⟩ => (outsAt1 V c t.val t.isLt).2.2.2.1
    | ⟨10, _⟩ => (outsAt1 V c t.val t.isLt).2.2.2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]
theorem after1_9 (c : Dev nD) (t : Fin cfg1.N) : (dat1 V c).after 9 t = (outsAt1 V c t.val t.isLt).2.2.2.1 := by dsimp only [dat1]
theorem after1_10 (c : Dev nD) (t : Fin cfg1.N) : (dat1 V c).after 10 t = (outsAt1 V c t.val t.isLt).2.2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem before1_6_B (c : Dev nD) (t : Fin cfg1.N) (h1 : t.val % 9 = 8) (d) :
    (dat1 V c).before 6 t d = (outsAt1 V c (t.val - 1) (Nat.lt_of_le_of_lt (Nat.sub_le _ _) t.isLt)).1 := by
  have ht : t.val ≠ 0 := by omega
  rw [(dat1 V c).before_of_pos 6 t ht ((cfg1.win 6).fetch_out rfl t), prevKeep1_6 t h1, if_neg Bool.false_ne_true]
  unfold Dat.left
  rw [prevLive1_6 t h1]
  show (dat1 V c).kept 6 _ d = _
  unfold Dat.kept
  rw [Pipeline.fill_of_clip_none 6 _ (fun _ => rfl) d ((dat1 V c).after 6 _), Pipeline.Window.fill_cut]
  exact after1_6 V c _

def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  have hN : t.val < 54 := lt_of_lt_of_eq t.isLt (show cfg1.N = 54 from N_1)
  by_cases h0 : t.val % 9 ≤ 7
  · by_cases h1 : t.val % 9 = 8
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6_A t ((hcond1_0 t).mpr h0) (fun h => h1 ((hcond1_1 t).mp h))], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
      rw [Dat.leavesExact_idle (dat1 V c) 10 t (idleAt1_10_A t ((hcond1_0 t).mpr h0) (fun h => h1 ((hcond1_1 t).mp h))) (noFlush1_10_A t ((hcond1_0 t).mpr h0) (fun h => h1 ((hcond1_1 t).mp h)))]
      rw [outsAt1_A V c t h0 h1]
      unfold out1_A_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [H9]; · iexact H9
      isplitl [H10]; · iexact H10
      iintro ⟨H0, H1, H2, H3, H4, H5, ⟨%e6, H6⟩, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _ _ _)
      isplitl [H7]; · iexists _; iexact H7
      isplitl [H8]; · iexists _; iexact H8
      isplitl [H9]; · iexists _; iexact H9
      iexists _; iexact H10
  · by_cases h1 : t.val % 9 = 8
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [idleAt1_6_B t (fun h => h0 ((hcond1_0 t).mp h)) ((hcond1_1 t).mpr h1), flushAt1_6_B t (fun h => h0 ((hcond1_0 t).mp h)) ((hcond1_1 t).mpr h1)], after1_6]
      rw [show (dat1 V c).leavesExact 7 t = owns (c : Thread nD τ) (ms1_7 t) fullShare ((dat1 V c).after 7 t) from by
      unfold Dat.leavesExact; rw [liveAt1_7_B t (fun h => h0 ((hcond1_0 t).mp h)) ((hcond1_1 t).mpr h1)], after1_7]
      rw [show (dat1 V c).leavesExact 8 t = owns (c : Thread nD τ) (ms1_8 t) fullShare ((dat1 V c).after 8 t) from by
      unfold Dat.leavesExact; rw [liveAt1_8_B t (fun h => h0 ((hcond1_0 t).mp h)) ((hcond1_1 t).mpr h1)], after1_8]
      rw [show (dat1 V c).leavesExact 9 t = owns (c : Thread nD τ) (ms1_9 t) fullShare ((dat1 V c).after 9 t) from by
      unfold Dat.leavesExact; rw [liveAt1_9_B t (fun h => h0 ((hcond1_0 t).mp h)) ((hcond1_1 t).mpr h1)], after1_9]
      rw [show (dat1 V c).leavesExact 10 t = owns (c : Thread nD τ) (ms1_10 t) fullShare ((dat1 V c).after 10 t) from by
      unfold Dat.leavesExact; rw [liveAt1_10_B t (fun h => h0 ((hcond1_0 t).mp h)) ((hcond1_1 t).mpr h1)], after1_10]
      simp only [before1_6_B V c t h1]
      rw [outsAt1_B V c t h0 h1]
      unfold out1_B_7 out1_B_8 out1_B_9 out1_B_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iintro ⟨H0, H1, H2, H3, H4, H5, H6, ⟨%e7, H7⟩, ⟨%e8, H8⟩, ⟨%e9, H9⟩, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _)
      unfold owns; iexists _; isplitr
      swap; · iexact H10
      ipureintro; exact View.read_writes_of_cover _ _ _ _ _ (cover1_B_10 c _ _ _ _ _ _ _ _ _ _ _ _ _ _ _ _ _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Bits.Region2.lean ====
/- The third call (gate_up): its blocks, what its body leaves at each point of its grid, its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 32 = 0 :=
  (fun t => by
    have ht : t.val < 192 := Nat.lt_of_lt_of_eq t.isLt N_2
    have e0 : (grid2.coords t 0).val = t.val / 32 % 6 := Pipeline.Grid.coords_val t 0 (by decide) rfl
    have e1 : (grid2.coords t 1).val = t.val / 1 % 32 := Pipeline.Grid.coords_val t 1 (by decide) rfl
    simp only [cond2_0, e0, e1]
    word_cmp
   : ∀ t : Fin grid2.N, cond2_0 (grid2.coords t) ↔ t.val % 32 = 0)

abbrev VO2_6 : View sig .tc .vmem S1024x512 .f32 := (Memref.whole cc2_stg6_0 : Memref sig .tc .vmem S1024x512 .f32).view
abbrev VO2_7 : View sig .tc .vmem S1024x128 .f32 := (Memref.whole cc2_stg7_0 : Memref sig .tc .vmem S1024x128 .f32).view
abbrev ms2_0 (t : Fin cfg2.N) : Memref sig .tc .vmem S1024x4096 .fp8e4m3 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x512 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x512 .fp8e4m3 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x128 .f32 := win2_7.stage (cfg2.slots t 7)
abbrev hs2_7 (t : Fin cfg2.N) : (ms2_7 t).IsWhole := hstage2_7 ((cfg2.slots t 7).cast nbuf2_7)

set_option maxHeartbeats 1000000 in
noncomputable def kernelRun2_A (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) :
    Σ' (L6 : List (View.Piece (Elt F) S1024x512 .f32)), { L7 : List (View.Piece (Elt F) S1024x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2_gate_up i arg2 harg2 arg3 harg3 arg4 harg4 arg5 harg5 arg6 harg6 arg7 harg7 arg8 harg8 arg9 harg9) K } := by
  refine ⟨?_, ?_, fun E K => ?run⟩
  case run =>
    simp only [cc2_gate_up_eq_skeleton]; unfold cc2_gate_up_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover2_A_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (y : S1024x512.Idx) :
    ∃ pc ∈ (kernelRun2_A c i arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg2 harg2 arg3 harg3 arg4 harg4 arg5 harg5 arg6 harg6 arg7 harg7 arg8 harg8 arg9 harg9 hc0 x0 x1 x2 x3 x4 x5).1 S1024x512.size (by sl_kernel_rfl) y

def out2_A_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) : Vec F S1024x512 .f32 :=
  VO2_6.read (Elt F) (VO2_6.writes (Elt F) VO2_6.junk (kernelRun2_A c i arg2 harg2 arg3 harg3 arg4 harg4 arg5 harg5 arg6 harg6 arg7 harg7 arg8 harg8 arg9 harg9 hc0 x0 x1 x2 x3 x4 x5).1)

theorem cover2_A_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (y : S1024x128.Idx) :
    ∃ pc ∈ (kernelRun2_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 x0 x1 x2 x3 x4 x5).2.1 S1024x128.size (by sl_kernel_rfl) y

def out2_A_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) : Vec F S1024x128 .f32 :=
  VO2_7.read (Elt F) (VO2_7.writes (Elt F) VO2_7.junk (kernelRun2_A c i arg2 harg2 arg3 harg3 arg4 harg4 arg5 harg5 arg6 harg6 arg7 harg7 arg8 harg8 arg9 harg9 hc0 x0 x1 x2 x3 x4 x5).2.1)

set_option maxHeartbeats 1000000 in
noncomputable def kernelRun2_B (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) :
    Σ' (L6 : List (View.Piece (Elt F) S1024x512 .f32)), { L7 : List (View.Piece (Elt F) S1024x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2_gate_up i arg2 harg2 arg3 harg3 arg4 harg4 arg5 harg5 arg6 harg6 arg7 harg7 arg8 harg8 arg9 harg9) K } := by
  refine ⟨?_, ?_, fun E K => ?run⟩
  case run =>
    simp only [cc2_gate_up_eq_skeleton]; unfold cc2_gate_up_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover2_B_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) (y : S1024x512.Idx) :
    ∃ pc ∈ (kernelRun2_B c i arg2 harg2 arg3 harg3 arg4 harg4 arg5 harg5 arg6 harg6 arg7 harg7 arg8 harg8 arg9 harg9 hc0 x0 x1 x2 x3 x4 x5 xo7).1, y ∈ pc.1.set :=
  View.cover_of_tiledL (kernelRun2_B c i arg2 harg2 arg3 harg3 arg4 harg4 arg5 harg5 arg6 harg6 arg7 harg7 arg8 harg8 arg9 harg9 hc0 x0 x1 x2 x3 x4 x5 xo7).1 S1024x512.size (by sl_kernel_rfl) y

def out2_B_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) : Vec F S1024x512 .f32 :=
  VO2_6.read (Elt F) (VO2_6.writes (Elt F) VO2_6.junk (kernelRun2_B c i arg2 harg2 arg3 harg3 arg4 harg4 arg5 harg5 arg6 harg6 arg7 harg7 arg8 harg8 arg9 harg9 hc0 x0 x1 x2 x3 x4 x5 xo7).1)

theorem cover2_B_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) (y : S1024x128.Idx) :
    ∃ pc ∈ (kernelRun2_B c i arg2 harg2 arg3 harg3 arg4 harg4 arg5 harg5 arg6 harg6 arg7 harg7 arg8 harg8 arg9 harg9 hc0 x0 x1 x2 x3 x4 x5 xo7).2.1, y ∈ pc.1.set :=
  View.cover_of_tiledL (kernelRun2_B c i arg2 harg2 arg3 harg3 arg4 harg4 arg5 harg5 arg6 harg6 arg7 harg7 arg8 harg8 arg9 harg9 hc0 x0 x1 x2 x3 x4 x5 xo7).2.1 S1024x128.size (by sl_kernel_rfl) y

def out2_B_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) : Vec F S1024x128 .f32 :=
  VO2_7.read (Elt F) (VO2_7.writes (Elt F) VO2_7.junk (kernelRun2_B c i arg2 harg2 arg3 harg3 arg4 harg4 arg5 harg5 arg6 harg6 arg7 harg7 arg8 harg8 arg9 harg9 hc0 x0 x1 x2 x3 x4 x5 xo7).2.1)

def outsAt2 (c : Dev nD) : (n : ℕ) → n < cfg2.N → Vec F S1024x512 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 32 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 32 = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

theorem outsAt2_B (c : Dev nD) (t : Fin cfg2.N) (h0 : ¬t.val % 32 = 0) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_7_B (c : Dev nD) (t : Fin cfg2.N) (h0 : ¬t.val % 32 = 0) (d) :
    (dat2 V c).before 7 t d = (outsAt2 V c (t.val - 1) (Nat.lt_of_le_of_lt (Nat.sub_le _ _) t.isLt)).2 := by
  have hN : t.val < 192 := lt_of_lt_of_eq t.isLt (show cfg2.N = 192 from N_2)
  rw [Dat.before_out_kept _ 7 rfl t (by omega) (Bool.eq_false_iff.mpr fun h => by have := (flush2_7 _).mp h; dsimp only at this; omega)
    (fun _ => rfl) (fun _ _ => rfl)]
  dsimp only [dat2]

def bodyPre2 (c : Dev nD) (t : Fin cfg2.N) : sProp (MT nD τ sig Unit (Elt F) ℕ (UR sig nD τ) ℕ) :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp (MT nD τ sig Unit (Elt F) ℕ (UR sig nD τ) ℕ) :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 192 := lt_of_lt_of_eq t.isLt (show cfg2.N = 192 from N_2)
  by_cases h0 : t.val % 32 = 0
  · rw [outsAt2_A V c t h0]
    unfold out2_A_6 out2_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _ _)
  · rw [outsAt2_B V c t h0]
    simp only [before2_7_B V c t h0]
    unfold out2_B_6 out2_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.Bits.Region3.lean ====
/- The fourth call (hidden_quant): its blocks, what its body leaves, its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S128x128 := Rect.unit (s := S128x128) ![0, 0] S128x128.size inb_S128x128_S128x128_0_0
abbrev r3_1 : Rect S128x16384 := Rect.unit (s := S128x16384) ![0, 0] S128x16384.size inb_S128x16384_S128x16384_0_0
abbrev r3_2 : Rect S128x1 := Rect.unit (s := S128x1) ![0, 0] S128x1.size inb_S128x1_S128x1_0_0

def k3_pay9 (x0 : Vec F S128x16384 .f32) (x1 : Vec F S128x128 .f32) : FVec F S128x1 .f32 :=
  k3_pay1 (View.ld x1 r3_0) -- `v5`
def k3_pay10 (x0 : Vec F S128x16384 .f32) (x1 : Vec F S128x128 .f32) : IVec S128x1 32 :=
  k3_pay4 (k3_pay9 x0 x1) (k3_pay2 (View.ld x1 r3_0)) k3_pay3 -- `v83`
def k3_pay11 (x0 : Vec F S128x16384 .f32) (x1 : Vec F S128x128 .f32) : IVec S128x1 32 :=
  k3_pay5 -- `v84`

def out3_2 (x0 : Vec F S128x16384 .f32) (x1 : Vec F S128x128 .f32) : Vec F S128x16384 .fp8e4m3 :=
  View.canon [⟨r3_1, k3_pay8 (k3_pay9 x0 x1) (k3_pay10 x0 x1) (k3_pay11 x0 x1) (View.ld x0 r3_1)⟩]

theorem cover3_2 (p0 : Vec F S128x16384 .fp8e4m3) (y : S128x16384.Idx) :
    ∃ pc ∈ ([⟨r3_1, p0⟩] : List (View.Piece (Elt F) S128x16384 .fp8e4m3)), y ∈ pc.1.set :=
  View.cover_of_tiled [⟨r3_1, p0⟩] S128x16384.size (by rfl) y

def out3_3 (x0 : Vec F S128x16384 .f32) (x1 : Vec F S128x128 .f32) : Vec F S128x1 .f32 :=
  View.canon [⟨r3_2, k3_pay7 (k3_pay9 x0 x1) (k3_pay10 x0 x1) (k3_pay11 x0 x1)⟩]

theorem cover3_3 (p0 : Vec F S128x1 .f32) (y : S128x1.Idx) :
    ∃ pc ∈ ([⟨r3_2, p0⟩] : List (View.Piece (Elt F) S128x1 .f32)), y ∈ pc.1.set :=
  View.cover_of_tiled [⟨r3_2, p0⟩] S128x1.size (by rfl) y

set_option maxHeartbeats 1000000 in
theorem sound_kernel3 (c : Dev nD) (E : Set ℕ) (i : grid3.Coords) (arg1 : Memref sig .tc .vmem S128x16384 .f32) (harg1 : arg1.IsWhole) (arg2 : Memref sig .tc .vmem S128x128 .f32) (harg2 : arg2.IsWhole) (arg3 : Memref sig .tc .vmem S128x16384 .fp8e4m3) (harg3 : arg3.IsWhole) (arg4 : Memref sig .tc .vmem S128x1 .f32) (harg4 : arg4.IsWhole)
    (x0 : Vec F S128x16384 .f32) (x1 : Vec F S128x128 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3_hidden_quant i arg1 harg1 arg2 harg2 arg3 harg3 arg4 harg4) K := by
  simp only [cc3_hidden_quant_eq_skeleton]; unfold cc3_hidden_quant_skel
  simp only [k3_part1_eq_skeleton, k3_part2_eq_skeleton, k3_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover3_2 _)).trans ?_
    rfl
  iexists _; isplitr
  swap; · iexact H3
  ipureintro
  refine (View.read_writes_eq_canon _ _ _ (cover3_3 _)).trans ?_
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp (MT nD τ sig Unit (Elt F) ℕ (UR sig nD τ) ℕ) :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp (MT nD τ sig Unit (Elt F) ℕ (UR sig nD τ) ℕ) :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.Kernel.Gen

end
-- ==== Proof.Bits.Region4.lean ====
/- The fifth call (down): its blocks, what its body leaves, its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1024x16384 := Rect.unit (s := S1024x16384) ![0, 0] S1024x16384.size inb_S1024x16384_S1024x16384_0_0
abbrev r4_1 : Rect S16384x512 := Rect.unit (s := S16384x512) ![0, 0] S16384x512.size inb_S16384x512_S16384x512_0_0
abbrev r4_2 : Rect S1024x1 := Rect.unit (s := S1024x1) ![0, 0] S1024x1.size inb_S1024x1_S1024x1_0_0
abbrev r4_3 : Rect S1x512 := Rect.unit (s := S1x512) ![0, 0] S1x512.size inb_S1x512_S1x512_0_0
abbrev r4_4 : Rect S1024x512 := Rect.unit (s := S1024x512) ![0, 0] S1024x512.size inb_S1024x512_S1024x512_0_0

def out4_5 (x0 : Vec F S1024x16384 .fp8e4m3) (x1 : Vec F S1024x1 .f32) (x2 : Vec F S16384x512 .fp8e4m3) (x3 : Vec F S1x512 .f32) (x4 : Vec F S1024x512 .bf16) : Vec F S1024x512 .bf16 :=
  View.canon [⟨r4_4, k4_pay1 (View.ld x0 r4_0) (View.ld x2 r4_1) (View.ld x1 r4_2) (View.ld x3 r4_3) (View.ld x4 r4_4)⟩]

theorem cover4_5 (p0 : Vec F S1024x512 .bf16) (y : S1024x512.Idx) :
    ∃ pc ∈ ([⟨r4_4, p0⟩] : List (View.Piece (Elt F) S1024x512 .bf16)), y ∈ pc.1.set :=
  View.cover_of_tiled [⟨r4_4, p0⟩] S1024x512.size (by rfl) y

set_option maxHeartbeats 1000000 in
theorem sound_kernel4 (c : Dev nD) (E : Set ℕ) (i : grid4.Coords) (arg2 : Memref sig .tc .vmem S1024x16384 .fp8e4m3) (harg2 : arg2.IsWhole) (arg3 : Memref sig .tc .vmem S1024x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .bf16) (harg7 : arg7.IsWhole)
    (x0 : Vec F S1024x16384 .fp8e4m3) (x1 : Vec F S1024x1 .f32) (x2 : Vec F S16384x512 .fp8e4m3) (x3 : Vec F S1x512 .f32) (x4 : Vec F S1024x512 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out4_5 x0 x1 x2 x3 x4)) -∗ K ⟨⟩))
      ⊢ wp frame (wpE (defs₀ (F := F)) Variants.none c none) E (cc4_down i arg2 harg2 arg3 harg3 arg4 harg4 arg5 harg5 arg6 harg6 arg7 harg7) K := by
  simp only [cc4_down_eq_skeleton]; unfold cc4_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp (MT nD τ sig Unit (Elt F) ℕ (UR sig nD τ) ℕ) :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp (MT nD τ sig Unit (Elt F) ℕ (UR sig nD τ) ℕ) :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.Kernel.Gen

end
-- ==== Proof.Bits.Hosts0.lean ====
/- What the host operations before the calls write. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_cst, main_v4, main_v5, main_cst_0, main_v6, main_v7, main_v8, main_cst_1, main_v9, main_v10, main_v11, main_v12, main_v13, main_v14, main_v15, main_v16, main_v17, main_v18, main_v19]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

end Cert.Kernel.Gen

end
-- ==== Proof.Bits.Fold0.lean ====
/- The buffers between the calls, from the launch memory on. -/
module

public import proofs.«01_k».proof.Proof.Bits.Region0
public import proofs.«01_k».proof.Proof.Bits.Region1
public import proofs.«01_k».proof.Proof.Bits.Region2
public import proofs.«01_k».proof.Proof.Bits.Region3
public import proofs.«01_k».proof.Proof.Bits.Region4
public import proofs.«01_k».proof.Proof.Bits.Hosts0

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact (dat2 (V3 m ρ) c).withArrays_arrAt launch₀2.sharedIn _ (A_eq2 (V3 m ρ) c) w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
end Cert.Kernel.Gen

end
-- ==== Proof.Bits.State.lean ====
/- The proof data of the five calls at the contents each of them is entered with. -/
module

public import proofs.«01_k».proof.Proof.Bits.Fold0

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MT nD τ sig Unit (Elt F) ℕ (UR sig nD τ) ℕ) := iprop(StableHlo.held (c : Thread nD τ) (Pipeline.ucRefs τ sig) (W6 m ρ c) ∗ ∃ r, prngReg c r)

end Cert.Kernel.Gen

end
-- ==== Proof.Bits.Record0.lean ====
/- Call 0 as a segment of the run. -/
module

public import proofs.«01_k».proof.Proof.Bits.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Bits.Record1.lean ====
/- Call 1 as a segment of the run. -/
module

public import proofs.«01_k».proof.Proof.Bits.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Bits.Record2.lean ====
/- Call 2 as a segment of the run. -/
module

public import proofs.«01_k».proof.Proof.Bits.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Bits.Record3.lean ====
/- Call 3 as a segment of the run. -/
module

public import proofs.«01_k».proof.Proof.Bits.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Bits.Record4.lean ====
/- Call 4 as a segment of the run. -/
module

public import proofs.«01_k».proof.Proof.Bits.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Gen

end
-- ==== Proof.Bits.Frame.lean ====
/- The whole run: it ends, nothing faults, the arguments are as launched and every counter is zero. -/
module

public import proofs.«01_k».proof.Proof.Bits.Record0
public import proofs.«01_k».proof.Proof.Bits.Record1
public import proofs.«01_k».proof.Proof.Bits.Record2
public import proofs.«01_k».proof.Proof.Bits.Record3
public import proofs.«01_k».proof.Proof.Bits.Record4

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩), funext fun g => hz g (.inr (no_unscoped g.2))⟩)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h.1) (frame m ρ)

end Cert.Kernel.Gen

end
-- ==== Proof.Ideal.Region0.lean ====
/- The first call (norm_quant): its blocks, what its body leaves, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x4096 := Rect.unit (s := S256x4096) ![0, 0] S256x4096.size inb_S256x4096_S256x4096_0_0
abbrev r0_1 : Rect S1x4096 := Rect.unit (s := S1x4096) ![0, 0] S1x4096.size inb_S1x4096_S1x4096_0_0
abbrev r0_2 : Rect S256x1 := Rect.unit (s := S256x1) ![0, 0] S256x1.size inb_S256x1_S256x1_0_0

def k0_pay15 (x0 : Vec F S256x4096 .bf16) (x1 : Vec F S1x4096 .f32) : FVec F S256x1 .f32 :=
  k0_pay3 (View.ld x0 r0_0) (View.ld x1 r0_1) -- `v21`
def k0_pay16 (x0 : Vec F S256x4096 .bf16) (x1 : Vec F S1x4096 .f32) : IVec S256x1 32 :=
  k0_pay4 (View.ld x0 r0_0) (View.ld x1 r0_1) -- `v33`
def k0_pay17 (x0 : Vec F S256x4096 .bf16) (x1 : Vec F S1x4096 .f32) : IVec S256x1 32 :=
  k0_pay5 (View.ld x0 r0_0) (View.ld x1 r0_1) -- `v35`
def k0_pay18 (x0 : Vec F S256x4096 .bf16) (x1 : Vec F S1x4096 .f32) : IVec S256x1 32 :=
  k0_pay6 (View.ld x0 r0_0) (View.ld x1 r0_1) -- `v39`
def k0_pay19 (x0 : Vec F S256x4096 .bf16) (x1 : Vec F S1x4096 .f32) : IVec S256x1 32 :=
  k0_pay7 -- `v40`
def k0_pay20 (x0 : Vec F S256x4096 .bf16) (x1 : Vec F S1x4096 .f32) : IVec S256x1 32 :=
  k0_pay8 (k0_pay15 x0 x1) (k0_pay16 x0 x1) (k0_pay17 x0 x1) (k0_pay18 x0 x1) (k0_pay19 x0 x1) -- `v77`
def k0_pay21 (x0 : Vec F S256x4096 .bf16) (x1 : Vec F S1x4096 .f32) : IVec S256x1 32 :=
  k0_pay9 (k0_pay15 x0 x1) (k0_pay16 x0 x1) (k0_pay17 x0 x1) (k0_pay18 x0 x1) (k0_pay19 x0 x1) -- `v79`
def k0_pay22 (x0 : Vec F S256x4096 .bf16) (x1 : Vec F S1x4096 .f32) : IVec S256x1 32 :=
  k0_pay10 (k0_pay15 x0 x1) (k0_pay16 x0 x1) (k0_pay17 x0 x1) (k0_pay18 x0 x1) (k0_pay19 x0 x1) -- `v83`
def k0_pay23 (x0 : Vec F S256x4096 .bf16) (x1 : Vec F S1x4096 .f32) : IVec S256x1 32 :=
  k0_pay11 -- `v84`

def out0_2 (x0 : Vec F S256x4096 .bf16) (x1 : Vec F S1x4096 .f32) : Vec F S256x4096 .fp8e4m3 :=
  View.canon [⟨r0_0, k0_pay1 (k0_pay2 (View.ld x0 r0_0) (View.ld x1 r0_1)) (k0_pay14 (k0_pay15 x0 x1) (k0_pay20 x0 x1) (k0_pay21 x0 x1) (k0_pay22 x0 x1) (k0_pay23 x0 x1))⟩]

theorem cover0_2 (p0 : Vec F S256x4096 .fp8e4m3) (y : S256x4096.Idx) :
    ∃ pc ∈ ([⟨r0_0, p0⟩] : List (View.Piece (Elt F) S256x4096 .fp8e4m3)), y ∈ pc.1.set :=
  View.cover_of_tiled [⟨r0_0, p0⟩] S256x4096.size (by rfl) y

def out0_3 (x0 : Vec F S256x4096 .bf16) (x1 : Vec F S1x4096 .f32) : Vec F S256x1 .f32 :=
  View.canon [⟨r0_2, k0_pay13 (k0_pay15 x0 x1) (k0_pay20 x0 x1) (k0_pay21 x0 x1) (k0_pay22 x0 x1) (k0_pay23 x0 x1)⟩]

theorem cover0_3 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

set_option maxHeartbeats 1000000 in
theorem sound_kernel0 (c : Dev nD) (E : Set ℕ) (i : grid0.Coords) (arg1 : Memref sig .tc .vmem S256x4096 .bf16) (harg1 : arg1.IsWhole) (arg2 : Memref sig .tc .vmem S1x4096 .f32) (harg2 : arg2.IsWhole) (arg3 : Memref sig .tc .vmem S256x4096 .fp8e4m3) (harg3 : arg3.IsWhole) (arg4 : Memref sig .tc .vmem S256x1 .f32) (harg4 : arg4.IsWhole)
    (x0 : Vec F S256x4096 .bf16) (x1 : Vec F S1x4096 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0_norm_quant i arg1 harg1 arg2 harg2 arg3 harg3 arg4 harg4) K := by
  simp only [cc0_norm_quant_eq_skeleton]; unfold cc0_norm_quant_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  iexists _; isplitr
  swap; · iexact H3
  ipureintro
  refine (View.read_writes_eq_canon _ _ _ (cover0_3 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Ideal.Region1.lean ====
/- The second call (qkv): its blocks, what its body leaves at each point of its grid, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := k1_cond1 i = 1#1
theorem hcond1_0 : ∀ t : Fin cfg1.N, cond1_0 (grid1.coords t) ↔ t.val % 9 ≤ 7 :=
  (by decide +kernel : ∀ t : Fin grid1.N, cond1_0 (grid1.coords t) ↔ t.val % 9 ≤ 7)

abbrev cond1_1 (i : grid1.Coords) : Prop := k1_cond2 i = 1#1
theorem hcond1_1 : ∀ t : Fin cfg1.N, cond1_1 (grid1.coords t) ↔ t.val % 9 = 8 :=
  (fun t => by
    have ht : t.val < 54 := Nat.lt_of_lt_of_eq t.isLt N_1
    have e0 : (grid1.coords t 0).val = t.val / 9 % 6 := Pipeline.Grid.coords_val t 0 (by decide) rfl
    have e1 : (grid1.coords t 1).val = t.val / 1 % 9 := Pipeline.Grid.coords_val t 1 (by decide) rfl
    simp only [cond1_1, k1_cond2, e0, e1]
    word_cmp
   : ∀ t : Fin grid1.N, cond1_1 (grid1.coords t) ↔ t.val % 9 = 8)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6_A : ∀ t : Fin cfg1.N, cond1_0 (grid1.coords t) → ¬cond1_1 (grid1.coords t) → cfg1.idle 6 (grid1.coords t) = false := by decide +kernel
theorem idleAt1_6_B : ∀ t : Fin cfg1.N, ¬cond1_0 (grid1.coords t) → cond1_1 (grid1.coords t) → cfg1.idle 6 (grid1.coords t) = true := by decide +kernel
theorem flushAt1_6_B : ∀ t : Fin cfg1.N, ¬cond1_0 (grid1.coords t) → cond1_1 (grid1.coords t) → (cfg1.win 6).flush t = true := by decide +kernel
theorem prevLive1_6 : ∀ t : Fin cfg1.N, t.val % 9 = 8 → cfg1.idle 6 (grid1.coords ⟨t.val - 1, Nat.lt_of_le_of_lt (Nat.sub_le _ _) t.isLt⟩) = false := by decide +kernel
theorem prevKeep1_6 : ∀ t : Fin cfg1.N, t.val % 9 = 8 → (cfg1.win 6).flush ⟨t.val - 1, Nat.lt_of_le_of_lt (Nat.sub_le _ _) t.isLt⟩ = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem liveAt1_7_B : ∀ t : Fin cfg1.N, ¬cond1_0 (grid1.coords t) → cond1_1 (grid1.coords t) → cfg1.idle 7 (grid1.coords t) = false := by decide +kernel
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
theorem liveAt1_8_B : ∀ t : Fin cfg1.N, ¬cond1_0 (grid1.coords t) → cond1_1 (grid1.coords t) → cfg1.idle 8 (grid1.coords t) = false := by decide +kernel
theorem idleAt1_9_A : ∀ t : Fin cfg1.N, cond1_0 (grid1.coords t) → ¬cond1_1 (grid1.coords t) → cfg1.idle 9 (grid1.coords t) = true := by decide +kernel
theorem noFlush1_9_A : ∀ t : Fin cfg1.N, cond1_0 (grid1.coords t) → ¬cond1_1 (grid1.coords t) → (cfg1.win 9).flush t = false := by decide +kernel
theorem liveAt1_9_B : ∀ t : Fin cfg1.N, ¬cond1_0 (grid1.coords t) → cond1_1 (grid1.coords t) → cfg1.idle 9 (grid1.coords t) = false := by decide +kernel
theorem idleAt1_10_A : ∀ t : Fin cfg1.N, cond1_0 (grid1.coords t) → ¬cond1_1 (grid1.coords t) → cfg1.idle 10 (grid1.coords t) = true := by decide +kernel
theorem noFlush1_10_A : ∀ t : Fin cfg1.N, cond1_0 (grid1.coords t) → ¬cond1_1 (grid1.coords t) → (cfg1.win 10).flush t = false := by decide +kernel
theorem liveAt1_10_B : ∀ t : Fin cfg1.N, ¬cond1_0 (grid1.coords t) → cond1_1 (grid1.coords t) → cfg1.idle 10 (grid1.coords t) = false := by decide +kernel

abbrev VO1_6 : View sig .tc .vmem S1024x512 .bf16 := (Memref.whole cc1_stg6_0 : Memref sig .tc .vmem S1024x512 .bf16).view
abbrev VO1_7 : View sig .tc .vmem S1024x256 .fp8e4m3 := (Memref.whole cc1_stg7_0 : Memref sig .tc .vmem S1024x256 .fp8e4m3).view
abbrev VO1_8 : View sig .tc .vmem S1024x1 .f32 := (Memref.whole cc1_stg8_0 : Memref sig .tc .vmem S1024x1 .f32).view
abbrev VO1_9 : View sig .tc .vmem S1024x256 .fp8e4m3 := (Memref.whole cc1_stg9_0 : Memref sig .tc .vmem S1024x256 .fp8e4m3).view
abbrev VO1_10 : View sig .tc .vmem S1024x1 .f32 := (Memref.whole cc1_stg10_0 : Memref sig .tc .vmem S1024x1 .f32).view
abbrev ms1_0 (t : Fin cfg1.N) : Memref sig .tc .vmem S1024x4096 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x256 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x256 .fp8e4m3 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1024x1 .f32 := win1_10.stage (cfg1.slots t 10)
abbrev hs1_10 (t : Fin cfg1.N) : (ms1_10 t).IsWhole := hstage1_10 ((cfg1.slots t 10).cast nbuf1_10)

set_option maxHeartbeats 1000000 in
noncomputable def kernelRun1_A (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) :
    Σ' (L6 : List (View.Piece (Elt F) S1024x512 .bf16)), Σ' (L7 : List (View.Piece (Elt F) S1024x256 .fp8e4m3)), Σ' (L8 : List (View.Piece (Elt F) S1024x1 .f32)), Σ' (L9 : List (View.Piece (Elt F) S1024x256 .fp8e4m3)), { L10 : List (View.Piece (Elt F) S1024x1 .f32) //
      ∀ (xi7 : Vec F S1024x256 .fp8e4m3) (xi8 : Vec F S1024x1 .f32) (xi9 : Vec F S1024x256 .fp8e4m3) (xi10 : Vec F S1024x1 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xi10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ owns (c : Thread nD τ) arg12 fullShare xi10) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12) K } := by
  refine ⟨?_, [], [], [], [], fun xi7 xi8 xi9 xi10 E K => ?run⟩
  case run =>
    simp only [cc1_qkv_eq_skeleton]; unfold cc1_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact H10

theorem cover1_A_6 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x512.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1 S1024x256.size (by sl_kernel_rfl) y

def out1_A_6 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x512 .bf16 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1)

def out1_A_7 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.1)

def out1_A_8 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

def out1_A_9 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

def out1_A_10 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : cond1_0 i) (hc1 : ¬cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

set_option maxHeartbeats 1000000 in
noncomputable def kernelRun1_B (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) :
    Σ' (L6 : List (View.Piece (Elt F) S1024x512 .bf16)), Σ' (L7 : List (View.Piece (Elt F) S1024x256 .fp8e4m3)), Σ' (L8 : List (View.Piece (Elt F) S1024x1 .f32)), Σ' (L9 : List (View.Piece (Elt F) S1024x256 .fp8e4m3)), { L10 : List (View.Piece (Elt F) S1024x1 .f32) //
      ∀ (xi6 : Vec F S1024x512 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc1_qkv_eq_skeleton]; unfold cc1_qkv_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact H10

theorem cover1_B_7 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.1 S1024x256.size (by sl_kernel_rfl) y

def out1_B_7 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.1)

theorem cover1_B_8 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

def out1_B_8 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.1)

theorem cover1_B_9 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1024x256.size (by sl_kernel_rfl) y

def out1_B_9 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x256 .fp8e4m3 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

theorem cover1_B_10 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) (y : S1024x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1024x1.size (by sl_kernel_rfl) y

def out1_B_10 (c : Dev nD) (i : grid1.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x512 .bf16) (harg8 : arg8.IsWhole) (arg9 : Memref sig .tc .vmem S1024x256 .fp8e4m3) (harg9 : arg9.IsWhole) (arg10 : Memref sig .tc .vmem S1024x1 .f32) (harg10 : arg10.IsWhole) (arg11 : Memref sig .tc .vmem S1024x256 .fp8e4m3) (harg11 : arg11.IsWhole) (arg12 : Memref sig .tc .vmem S1024x1 .f32) (harg12 : arg12.IsWhole) (hc0 : ¬cond1_0 i) (hc1 : cond1_1 i)
    (x0 : Vec F S1024x4096 .fp8e4m3) (x1 : Vec F S1024x1 .f32) (x2 : Vec F S4096x512 .fp8e4m3) (x3 : Vec F S1x512 .f32) (x4 : Vec F S1024x128 .f32) (x5 : Vec F S1024x128 .f32) : Vec F S1024x1 .f32 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

def outsAt1 (c : Dev nD) : (n : ℕ) → n < cfg1.N → Vec F S1024x512 .bf16 × Vec F S1024x256 .fp8e4m3 × Vec F S1024x1 .f32 × Vec F S1024x256 .fp8e4m3 × Vec F S1024x1 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (by (try dsimp only) <;> omega)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 9 ≤ 7 then
      if h1 : (n + 1) % 9 = 8 then
        False.elim (by have hN : n + 1 < 54 := lt_of_lt_of_eq hn (show cfg1.N = 54 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 9 = 8 then
        ((outsAt1 c n (by omega)).1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
      else
        False.elim (by have hN : n + 1 < 54 := lt_of_lt_of_eq hn (show cfg1.N = 54 from N_1); omega)

theorem outsAt1_A (c : Dev nD) (t : Fin cfg1.N) (h0 : t.val % 9 ≤ 7) (h1 : ¬t.val % 9 = 8) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 9 ≤ 7) (h1 : t.val % 9 = 8) :
    outsAt1 V c t.val t.isLt = ((outsAt1 V c (t.val - 1) (Nat.lt_of_le_of_lt (Nat.sub_le _ _) t.isLt)).1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t), out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t), out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t), out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h1) (iblk1 V c 0 t) (iblk1 V c 1 t) (iblk1 V c 2 t) (iblk1 V c 3 t) (iblk1 V c 4 t) (iblk1 V c 5 t)) := by
  obtain ⟨n, hn⟩ := t
  cases n with
  | zero => exact (by exfalso; (try dsimp only at h0); exact by omega)
  | succ n => exact (dif_neg h0).trans ((dif_pos h1).trans rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
    | ⟨9, _⟩ => (outsAt1 V c t.val t.isLt).2.2.2.1
    | ⟨10, _⟩ => (outsAt1 V c t.val t.isLt).2.2.2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]
theorem after1_9 (c : Dev nD) (t : Fin cfg1.N) : (dat1 V c).after 9 t = (outsAt1 V c t.val t.isLt).2.2.2.1 := by dsimp only [dat1]
theorem after1_10 (c : Dev nD) (t : Fin cfg1.N) : (dat1 V c).after 10 t = (outsAt1 V c t.val t.isLt).2.2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem before1_6_B (c : Dev nD) (t : Fin cfg1.N) (h1 : t.val % 9 = 8) (d) :
    (dat1 V c).before 6 t d = (outsAt1 V c (t.val - 1) (Nat.lt_of_le_of_lt (Nat.sub_le _ _) t.isLt)).1 := by
  have ht : t.val ≠ 0 := by omega
  rw [(dat1 V c).before_of_pos 6 t ht ((cfg1.win 6).fetch_out rfl t), prevKeep1_6 t h1, if_neg Bool.false_ne_true]
  unfold Dat.left
  rw [prevLive1_6 t h1]
  show (dat1 V c).kept 6 _ d = _
  unfold Dat.kept
  rw [Pipeline.fill_of_clip_none 6 _ (fun _ => rfl) d ((dat1 V c).after 6 _), Pipeline.Window.fill_cut]
  exact after1_6 V c _

def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  have hN : t.val < 54 := lt_of_lt_of_eq t.isLt (show cfg1.N = 54 from N_1)
  by_cases h0 : t.val % 9 ≤ 7
  · by_cases h1 : t.val % 9 = 8
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6_A t ((hcond1_0 t).mpr h0) (fun h => h1 ((hcond1_1 t).mp h))], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
      rw [Dat.leavesExact_idle (dat1 V c) 10 t (idleAt1_10_A t ((hcond1_0 t).mpr h0) (fun h => h1 ((hcond1_1 t).mp h))) (noFlush1_10_A t ((hcond1_0 t).mpr h0) (fun h => h1 ((hcond1_1 t).mp h)))]
      rw [outsAt1_A V c t h0 h1]
      unfold out1_A_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [H9]; · iexact H9
      isplitl [H10]; · iexact H10
      iintro ⟨H0, H1, H2, H3, H4, H5, ⟨%e6, H6⟩, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _ _ _ _)
      isplitl [H7]; · iexists _; iexact H7
      isplitl [H8]; · iexists _; iexact H8
      isplitl [H9]; · iexists _; iexact H9
      iexists _; iexact H10
  · by_cases h1 : t.val % 9 = 8
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [idleAt1_6_B t (fun h => h0 ((hcond1_0 t).mp h)) ((hcond1_1 t).mpr h1), flushAt1_6_B t (fun h => h0 ((hcond1_0 t).mp h)) ((hcond1_1 t).mpr h1)], after1_6]
      rw [show (dat1 V c).leavesExact 7 t = owns (c : Thread nD τ) (ms1_7 t) fullShare ((dat1 V c).after 7 t) from by
      unfold Dat.leavesExact; rw [liveAt1_7_B t (fun h => h0 ((hcond1_0 t).mp h)) ((hcond1_1 t).mpr h1)], after1_7]
      rw [show (dat1 V c).leavesExact 8 t = owns (c : Thread nD τ) (ms1_8 t) fullShare ((dat1 V c).after 8 t) from by
      unfold Dat.leavesExact; rw [liveAt1_8_B t (fun h => h0 ((hcond1_0 t).mp h)) ((hcond1_1 t).mpr h1)], after1_8]
      rw [show (dat1 V c).leavesExact 9 t = owns (c : Thread nD τ) (ms1_9 t) fullShare ((dat1 V c).after 9 t) from by
      unfold Dat.leavesExact; rw [liveAt1_9_B t (fun h => h0 ((hcond1_0 t).mp h)) ((hcond1_1 t).mpr h1)], after1_9]
      rw [show (dat1 V c).leavesExact 10 t = owns (c : Thread nD τ) (ms1_10 t) fullShare ((dat1 V c).after 10 t) from by
      unfold Dat.leavesExact; rw [liveAt1_10_B t (fun h => h0 ((hcond1_0 t).mp h)) ((hcond1_1 t).mpr h1)], after1_10]
      simp only [before1_6_B V c t h1]
      rw [outsAt1_B V c t h0 h1]
      unfold out1_B_7 out1_B_8 out1_B_9 out1_B_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      iintro ⟨H0, H1, H2, H3, H4, H5, H6, ⟨%e7, H7⟩, ⟨%e8, H8⟩, ⟨%e9, H9⟩, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _)
      unfold owns; iexists _; isplitr
      swap; · iexact H10
      ipureintro; exact View.read_writes_of_cover _ _ _ _ _ (cover1_B_10 c _ _ _ _ _ _ _ _ _ _ _ _ _ _ _ _ _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Ideal.Region2.lean ====
/- The third call (gate_up): its blocks, what its body leaves at each point of its grid, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 32 = 0 :=
  (fun t => by
    have ht : t.val < 192 := Nat.lt_of_lt_of_eq t.isLt N_2
    have e0 : (grid2.coords t 0).val = t.val / 32 % 6 := Pipeline.Grid.coords_val t 0 (by decide) rfl
    have e1 : (grid2.coords t 1).val = t.val / 1 % 32 := Pipeline.Grid.coords_val t 1 (by decide) rfl
    simp only [cond2_0, e0, e1]
    word_cmp
   : ∀ t : Fin grid2.N, cond2_0 (grid2.coords t) ↔ t.val % 32 = 0)

abbrev VO2_6 : View sig .tc .vmem S1024x512 .f32 := (Memref.whole cc2_stg6_0 : Memref sig .tc .vmem S1024x512 .f32).view
abbrev VO2_7 : View sig .tc .vmem S1024x128 .f32 := (Memref.whole cc2_stg7_0 : Memref sig .tc .vmem S1024x128 .f32).view
abbrev ms2_0 (t : Fin cfg2.N) : Memref sig .tc .vmem S1024x4096 .fp8e4m3 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x512 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x512 .fp8e4m3 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x128 .f32 := win2_7.stage (cfg2.slots t 7)
abbrev hs2_7 (t : Fin cfg2.N) : (ms2_7 t).IsWhole := hstage2_7 ((cfg2.slots t 7).cast nbuf2_7)

set_option maxHeartbeats 1000000 in
noncomputable def kernelRun2_A (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) :
    Σ' (L6 : List (View.Piece (Elt F) S1024x512 .f32)), { L7 : List (View.Piece (Elt F) S1024x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2_gate_up i arg2 harg2 arg3 harg3 arg4 harg4 arg5 harg5 arg6 harg6 arg7 harg7 arg8 harg8 arg9 harg9) K } := by
  refine ⟨?_, ?_, fun E K => ?run⟩
  case run =>
    simp only [cc2_gate_up_eq_skeleton]; unfold cc2_gate_up_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover2_A_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (y : S1024x512.Idx) :
    ∃ pc ∈ (kernelRun2_A c i arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg2 harg2 arg3 harg3 arg4 harg4 arg5 harg5 arg6 harg6 arg7 harg7 arg8 harg8 arg9 harg9 hc0 x0 x1 x2 x3 x4 x5).1 S1024x512.size (by sl_kernel_rfl) y

def out2_A_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) : Vec F S1024x512 .f32 :=
  VO2_6.read (Elt F) (VO2_6.writes (Elt F) VO2_6.junk (kernelRun2_A c i arg2 harg2 arg3 harg3 arg4 harg4 arg5 harg5 arg6 harg6 arg7 harg7 arg8 harg8 arg9 harg9 hc0 x0 x1 x2 x3 x4 x5).1)

theorem cover2_A_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (y : S1024x128.Idx) :
    ∃ pc ∈ (kernelRun2_A c i arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 x0 x1 x2 x3 x4 x5).2.1 S1024x128.size (by sl_kernel_rfl) y

def out2_A_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) : Vec F S1024x128 .f32 :=
  VO2_7.read (Elt F) (VO2_7.writes (Elt F) VO2_7.junk (kernelRun2_A c i arg2 harg2 arg3 harg3 arg4 harg4 arg5 harg5 arg6 harg6 arg7 harg7 arg8 harg8 arg9 harg9 hc0 x0 x1 x2 x3 x4 x5).2.1)

set_option maxHeartbeats 1000000 in
noncomputable def kernelRun2_B (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) :
    Σ' (L6 : List (View.Piece (Elt F) S1024x512 .f32)), { L7 : List (View.Piece (Elt F) S1024x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2_gate_up i arg2 harg2 arg3 harg3 arg4 harg4 arg5 harg5 arg6 harg6 arg7 harg7 arg8 harg8 arg9 harg9) K } := by
  refine ⟨?_, ?_, fun E K => ?run⟩
  case run =>
    simp only [cc2_gate_up_eq_skeleton]; unfold cc2_gate_up_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover2_B_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) (y : S1024x512.Idx) :
    ∃ pc ∈ (kernelRun2_B c i arg2 harg2 arg3 harg3 arg4 harg4 arg5 harg5 arg6 harg6 arg7 harg7 arg8 harg8 arg9 harg9 hc0 x0 x1 x2 x3 x4 x5 xo7).1, y ∈ pc.1.set :=
  View.cover_of_tiledL (kernelRun2_B c i arg2 harg2 arg3 harg3 arg4 harg4 arg5 harg5 arg6 harg6 arg7 harg7 arg8 harg8 arg9 harg9 hc0 x0 x1 x2 x3 x4 x5 xo7).1 S1024x512.size (by sl_kernel_rfl) y

def out2_B_6 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) : Vec F S1024x512 .f32 :=
  VO2_6.read (Elt F) (VO2_6.writes (Elt F) VO2_6.junk (kernelRun2_B c i arg2 harg2 arg3 harg3 arg4 harg4 arg5 harg5 arg6 harg6 arg7 harg7 arg8 harg8 arg9 harg9 hc0 x0 x1 x2 x3 x4 x5 xo7).1)

theorem cover2_B_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) (y : S1024x128.Idx) :
    ∃ pc ∈ (kernelRun2_B c i arg2 harg2 arg3 harg3 arg4 harg4 arg5 harg5 arg6 harg6 arg7 harg7 arg8 harg8 arg9 harg9 hc0 x0 x1 x2 x3 x4 x5 xo7).2.1, y ∈ pc.1.set :=
  View.cover_of_tiledL (kernelRun2_B c i arg2 harg2 arg3 harg3 arg4 harg4 arg5 harg5 arg6 harg6 arg7 harg7 arg8 harg8 arg9 harg9 hc0 x0 x1 x2 x3 x4 x5 xo7).2.1 S1024x128.size (by sl_kernel_rfl) y

def out2_B_7 (c : Dev nD) (i : grid2.Coords) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x128 .f32) (harg9 : arg9.IsWhole) (hc0 : ¬cond2_0 i)
    (x0 : Vec F S1024x4096 .fp8e4m3) (x1 : Vec F S1024x1 .f32) (x2 : Vec F S4096x512 .fp8e4m3) (x3 : Vec F S4096x512 .fp8e4m3) (x4 : Vec F S1x512 .f32) (x5 : Vec F S1x512 .f32) (xo7 : Vec F S1024x128 .f32) : Vec F S1024x128 .f32 :=
  VO2_7.read (Elt F) (VO2_7.writes (Elt F) VO2_7.junk (kernelRun2_B c i arg2 harg2 arg3 harg3 arg4 harg4 arg5 harg5 arg6 harg6 arg7 harg7 arg8 harg8 arg9 harg9 hc0 x0 x1 x2 x3 x4 x5 xo7).2.1)

def outsAt2 (c : Dev nD) : (n : ℕ) → n < cfg2.N → Vec F S1024x512 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 32 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 32 = 0) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

theorem outsAt2_B (c : Dev nD) (t : Fin cfg2.N) (h0 : ¬t.val % 32 = 0) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_7_B (c : Dev nD) (t : Fin cfg2.N) (h0 : ¬t.val % 32 = 0) (d) :
    (dat2 V c).before 7 t d = (outsAt2 V c (t.val - 1) (Nat.lt_of_le_of_lt (Nat.sub_le _ _) t.isLt)).2 := by
  have hN : t.val < 192 := lt_of_lt_of_eq t.isLt (show cfg2.N = 192 from N_2)
  rw [Dat.before_out_kept _ 7 rfl t (by omega) (Bool.eq_false_iff.mpr fun h => by have := (flush2_7 _).mp h; dsimp only at this; omega)
    (fun _ => rfl) (fun _ _ => rfl)]
  dsimp only [dat2]

def bodyPre2 (c : Dev nD) (t : Fin cfg2.N) : sProp (MT nD τ sig Unit (Elt F) ℕ (UR sig nD τ) ℕ) :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp (MT nD τ sig Unit (Elt F) ℕ (UR sig nD τ) ℕ) :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 192 := lt_of_lt_of_eq t.isLt (show cfg2.N = 192 from N_2)
  by_cases h0 : t.val % 32 = 0
  · rw [outsAt2_A V c t h0]
    unfold out2_A_6 out2_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _ _)
  · rw [outsAt2_B V c t h0]
    simp only [before2_7_B V c t h0]
    unfold out2_B_6 out2_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Ideal.Region3.lean ====
/- The fourth call (hidden_quant): its blocks, what its body leaves, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S128x128 := Rect.unit (s := S128x128) ![0, 0] S128x128.size inb_S128x128_S128x128_0_0
abbrev r3_1 : Rect S128x16384 := Rect.unit (s := S128x16384) ![0, 0] S128x16384.size inb_S128x16384_S128x16384_0_0
abbrev r3_2 : Rect S128x1 := Rect.unit (s := S128x1) ![0, 0] S128x1.size inb_S128x1_S128x1_0_0

def k3_pay9 (x0 : Vec F S128x16384 .f32) (x1 : Vec F S128x128 .f32) : FVec F S128x1 .f32 :=
  k3_pay1 (View.ld x1 r3_0) -- `v5`
def k3_pay10 (x0 : Vec F S128x16384 .f32) (x1 : Vec F S128x128 .f32) : IVec S128x1 32 :=
  k3_pay4 (k3_pay9 x0 x1) (k3_pay2 (View.ld x1 r3_0)) k3_pay3 -- `v83`
def k3_pay11 (x0 : Vec F S128x16384 .f32) (x1 : Vec F S128x128 .f32) : IVec S128x1 32 :=
  k3_pay5 -- `v84`

def out3_2 (x0 : Vec F S128x16384 .f32) (x1 : Vec F S128x128 .f32) : Vec F S128x16384 .fp8e4m3 :=
  View.canon [⟨r3_1, k3_pay8 (k3_pay9 x0 x1) (k3_pay10 x0 x1) (k3_pay11 x0 x1) (View.ld x0 r3_1)⟩]

theorem cover3_2 (p0 : Vec F S128x16384 .fp8e4m3) (y : S128x16384.Idx) :
    ∃ pc ∈ ([⟨r3_1, p0⟩] : List (View.Piece (Elt F) S128x16384 .fp8e4m3)), y ∈ pc.1.set :=
  View.cover_of_tiled [⟨r3_1, p0⟩] S128x16384.size (by rfl) y

def out3_3 (x0 : Vec F S128x16384 .f32) (x1 : Vec F S128x128 .f32) : Vec F S128x1 .f32 :=
  View.canon [⟨r3_2, k3_pay7 (k3_pay9 x0 x1) (k3_pay10 x0 x1) (k3_pay11 x0 x1)⟩]

theorem cover3_3 (p0 : Vec F S128x1 .f32) (y : S128x1.Idx) :
    ∃ pc ∈ ([⟨r3_2, p0⟩] : List (View.Piece (Elt F) S128x1 .f32)), y ∈ pc.1.set :=
  View.cover_of_tiled [⟨r3_2, p0⟩] S128x1.size (by rfl) y

set_option maxHeartbeats 1000000 in
theorem sound_kernel3 (c : Dev nD) (E : Set ℕ) (i : grid3.Coords) (arg1 : Memref sig .tc .vmem S128x16384 .f32) (harg1 : arg1.IsWhole) (arg2 : Memref sig .tc .vmem S128x128 .f32) (harg2 : arg2.IsWhole) (arg3 : Memref sig .tc .vmem S128x16384 .fp8e4m3) (harg3 : arg3.IsWhole) (arg4 : Memref sig .tc .vmem S128x1 .f32) (harg4 : arg4.IsWhole)
    (x0 : Vec F S128x16384 .f32) (x1 : Vec F S128x128 .f32) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3_hidden_quant i arg1 harg1 arg2 harg2 arg3 harg3 arg4 harg4) K := by
  simp only [cc3_hidden_quant_eq_skeleton]; unfold cc3_hidden_quant_skel
  simp only [k3_part1_eq_skeleton, k3_part2_eq_skeleton, k3_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover3_2 _)).trans ?_
    rfl
  iexists _; isplitr
  swap; · iexact H3
  ipureintro
  refine (View.read_writes_eq_canon _ _ _ (cover3_3 _)).trans ?_
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp (MT nD τ sig Unit (Elt F) ℕ (UR sig nD τ) ℕ) :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp (MT nD τ sig Unit (Elt F) ℕ (UR sig nD τ) ℕ) :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Ideal.Region4.lean ====
/- The fifth call (down): its blocks, what its body leaves, its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1024x16384 := Rect.unit (s := S1024x16384) ![0, 0] S1024x16384.size inb_S1024x16384_S1024x16384_0_0
abbrev r4_1 : Rect S16384x512 := Rect.unit (s := S16384x512) ![0, 0] S16384x512.size inb_S16384x512_S16384x512_0_0
abbrev r4_2 : Rect S1024x1 := Rect.unit (s := S1024x1) ![0, 0] S1024x1.size inb_S1024x1_S1024x1_0_0
abbrev r4_3 : Rect S1x512 := Rect.unit (s := S1x512) ![0, 0] S1x512.size inb_S1x512_S1x512_0_0
abbrev r4_4 : Rect S1024x512 := Rect.unit (s := S1024x512) ![0, 0] S1024x512.size inb_S1024x512_S1024x512_0_0

def out4_5 (x0 : Vec F S1024x16384 .fp8e4m3) (x1 : Vec F S1024x1 .f32) (x2 : Vec F S16384x512 .fp8e4m3) (x3 : Vec F S1x512 .f32) (x4 : Vec F S1024x512 .bf16) : Vec F S1024x512 .bf16 :=
  View.canon [⟨r4_4, k4_pay1 (View.ld x0 r4_0) (View.ld x2 r4_1) (View.ld x1 r4_2) (View.ld x3 r4_3) (View.ld x4 r4_4)⟩]

theorem cover4_5 (p0 : Vec F S1024x512 .bf16) (y : S1024x512.Idx) :
    ∃ pc ∈ ([⟨r4_4, p0⟩] : List (View.Piece (Elt F) S1024x512 .bf16)), y ∈ pc.1.set :=
  View.cover_of_tiled [⟨r4_4, p0⟩] S1024x512.size (by rfl) y

set_option maxHeartbeats 1000000 in
theorem sound_kernel4 (c : Dev nD) (E : Set ℕ) (i : grid4.Coords) (arg2 : Memref sig .tc .vmem S1024x16384 .fp8e4m3) (harg2 : arg2.IsWhole) (arg3 : Memref sig .tc .vmem S1024x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .bf16) (harg7 : arg7.IsWhole)
    (x0 : Vec F S1024x16384 .fp8e4m3) (x1 : Vec F S1024x1 .f32) (x2 : Vec F S16384x512 .fp8e4m3) (x3 : Vec F S1x512 .f32) (x4 : Vec F S1024x512 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out4_5 x0 x1 x2 x3 x4)) -∗ K ⟨⟩))
      ⊢ wp frame (wpE (defs₀ (F := F)) Variants.none c none) E (cc4_down i arg2 harg2 arg3 harg3 arg4 harg4 arg5 harg5 arg6 harg6 arg7 harg7) K := by
  simp only [cc4_down_eq_skeleton]; unfold cc4_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp (MT nD τ sig Unit (Elt F) ℕ (UR sig nD τ) ℕ) :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp (MT nD τ sig Unit (Elt F) ℕ (UR sig nD τ) ℕ) :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Ideal.Hosts0.lean ====
/- What the host operations before the calls write. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_cst, main_v4, main_v5, main_cst_0, main_v6, main_v7, main_v8, main_cst_1, main_v9, main_v10, main_v11, main_v12, main_v13, main_v14, main_v15, main_v16, main_v17, main_v18, main_v19]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

end Cert.KernelIdeal.Gen

end
-- ==== Proof.Ideal.Fold0.lean ====
/- The buffers between the calls, from the launch memory on. -/
module

public import proofs.«01_k».proof.Proof.Ideal.Region0
public import proofs.«01_k».proof.Proof.Ideal.Region1
public import proofs.«01_k».proof.Proof.Ideal.Region2
public import proofs.«01_k».proof.Proof.Ideal.Region3
public import proofs.«01_k».proof.Proof.Ideal.Region4
public import proofs.«01_k».proof.Proof.Ideal.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact (dat2 (V3 m ρ) c).withArrays_arrAt launch₀2.sharedIn _ (A_eq2 (V3 m ρ) c) w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
end Cert.KernelIdeal.Gen

end
-- ==== Proof.Ideal.State.lean ====
/- The proof data of the five calls at the contents each of them is entered with. -/
module

public import proofs.«01_k».proof.Proof.Ideal.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MT nD τ sig Unit (Elt F) ℕ (UR sig nD τ) ℕ) := iprop(StableHlo.held (c : Thread nD τ) (Pipeline.ucRefs τ sig) (W6 m ρ c) ∗ ∃ r, prngReg c r)

end Cert.KernelIdeal.Gen

end
-- ==== Proof.Ideal.Record0.lean ====
/- Call 0 as a segment of the run. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record1.lean ====
/- Call 1 as a segment of the run. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record2.lean ====
/- Call 2 as a segment of the run. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record3.lean ====
/- Call 3 as a segment of the run. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record4.lean ====
/- Call 4 as a segment of the run. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.Ideal.Frame.lean ====
/- The whole run: it ends, nothing faults, the arguments are as launched and every counter is zero. -/
module

public import proofs.«01_k».proof.Proof.Ideal.Record0
public import proofs.«01_k».proof.Proof.Ideal.Record1
public import proofs.«01_k».proof.Proof.Ideal.Record2
public import proofs.«01_k».proof.Proof.Ideal.Record3
public import proofs.«01_k».proof.Proof.Ideal.Record4

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩), funext fun g => hz g (.inr (no_unscoped g.2))⟩)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h.1) (frame m ρ)

end Cert.KernelIdeal.Gen

end
-- ==== Proof.Scale.lean ====
/- The power-of-two scale of a row, over the extended reals: the kernel finds the exponent by bisection against the
   numbers whose bits are `n <<< 23`; the reference takes the least power of two above the row's largest magnitude
   over 448. Both give one number, and the kernel's reciprocal is that number's inverse. -/
module

public import Idealize.ShloMosaic.Lib.Pointwise
public import Idealize.ShloMosaic.PureOps.Ideal
public import Idealize.ShloMosaic.PureOps.Ideal.Laws

@[expose] public section

set_option maxRecDepth 16384

noncomputable section

namespace Cert.Scale

open Idealize.ShloMosaic Idealize.ShloMosaic.TcCoe

/-- One step of the bisection: `ex + b` where `a` is at least the number of that exponent field, else `ex`. -/
def step (a : EReal) (b ex : BitVec 32) : BitVec 32 :=
  Scalar.select (Ideal.cmp .oge a (Ideal.ofBits .f32 (IntOp.shli .vector
    (Scalar.select (IntOp.cmpi .sgt (IntOp.addi ex b) 246#32) 255#32 (IntOp.addi ex b)) 23#32))) (IntOp.addi ex b) ex

/-- The exponent field of `a`, bit by bit from the top. -/
def expo (a : EReal) : BitVec 32 :=
  step a 1#32 (step a 2#32 (step a 4#32 (step a 8#32 (step a 16#32 (step a 32#32 (step a 64#32 (step a 128#32 0#32)))))))

/-- The exponent of the scale. -/
def expE (ex : BitVec 32) : BitVec 32 :=
  Scalar.select (IntOp.ori (IntOp.cmpi .eq ex 0#32) (IntOp.cmpi .eq ex 255#32)) 0#32 (IntOp.subi ex 126#32)

/-- The kernel's scale. -/
def kscale (ex : BitVec 32) : EReal := Ideal.ofBits .f32 (IntOp.shli .vector (IntOp.addi 127#32 (expE ex)) 23#32)
/-- The kernel's reciprocal of the scale. -/
def kinv (ex : BitVec 32) : EReal := Ideal.ofBits .f32 (IntOp.shli .vector (IntOp.subi 127#32 (expE ex)) 23#32)

/-- The number whose exponent field is `n`. -/
def thr (n : ℕ) : EReal := if 246 < n then ⊤ else (((2 : ℝ) ^ ((n : ℤ) - 127) : ℝ) : EReal)

theorem ofBits_shift (n : ℕ) (h1 : 1 ≤ n) (h2 : n ≤ 254) :
    Ideal.ofBits .f32 (IntOp.shli .vector (BitVec.ofNat 32 n) 23#32) = (((2 : ℝ) ^ ((n : ℤ) - 127) : ℝ) : EReal) := by
  have e : IntOp.shli .vector (BitVec.ofNat 32 n) 23#32 = BitVec.ofNat 32 n <<< (23#32) := by
    unfold IntOp.shli; rw [if_pos (by decide)]
  have hex : (((BitVec.ofNat 32 n <<< (23#32)).extractLsb' 23 8).toNat : ℕ) = n := by
    have : ∀ n : Fin 256, (((BitVec.ofNat 32 n.val <<< (23#32)).extractLsb' 23 8).toNat : ℕ) = n.val := by decide +kernel
    exact this ⟨n, by omega⟩
  have hfr : (((BitVec.ofNat 32 n <<< (23#32)).extractLsb' 0 23).toNat : ℕ) = 0 := by
    have : ∀ n : Fin 256, (((BitVec.ofNat 32 n.val <<< (23#32)).extractLsb' 0 23).toNat : ℕ) = 0 := by decide +kernel
    exact this ⟨n, by omega⟩
  have hsg : ((BitVec.ofNat 32 n <<< (23#32)).extractLsb' 31 1 == 1#1) = false := by
    have : ∀ n : Fin 256, ((BitVec.ofNat 32 n.val <<< (23#32)).extractLsb' 31 1 == 1#1) = false := by decide +kernel
    exact this ⟨n, by omega⟩
  rw [e]
  simp only [Ideal.ofBits]
  unfold Ideal.ieee
  simp only [Nat.reduceAdd, hex, hfr, hsg]
  rw [if_neg (by omega), if_neg (by omega)]
  refine EReal.coe_eq_coe_iff.2 ?_
  have : ((n : ℤ) - (2 ^ (8 - 1) - 1) - (23 : ℕ)) = ((n : ℤ) - 127) - 23 := by norm_num
  rw [this, zpow_sub₀ (by norm_num : (2 : ℝ) ≠ 0)]
  simp only [Bool.false_eq_true, if_false, Nat.add_zero]
  push_cast
  norm_num
  ring

theorem ofBits_top : Ideal.ofBits .f32 (IntOp.shli .vector (255#32) 23#32) = ⊤ := by
  have e : IntOp.shli .vector 255#32 23#32 = 0x7F800000#32 := by decide
  rw [e]; simp [Ideal.ofBits, Ideal.ieee]

theorem step_eq (a : EReal) (b n : ℕ) (hb : 1 ≤ b) (h : n + b ≤ 255) :
    step a (BitVec.ofNat 32 b) (BitVec.ofNat 32 n) = if thr (n + b) ≤ a then BitVec.ofNat 32 (n + b) else BitVec.ofNat 32 n := by
  have e : IntOp.addi (BitVec.ofNat 32 n) (BitVec.ofNat 32 b) = BitVec.ofNat 32 (n + b) := by
    unfold IntOp.addi; exact (BitVec.ofNat_add n b).symm
  have hsel : Ideal.ofBits .f32 (IntOp.shli .vector
      (Scalar.select (IntOp.cmpi .sgt (BitVec.ofNat 32 (n + b)) 246#32) 255#32 (BitVec.ofNat 32 (n + b))) 23#32) = thr (n + b) := by
    have hc : ∀ k : Fin 256, Scalar.select (IntOp.cmpi .sgt (BitVec.ofNat 32 k.val) 246#32) 255#32 (BitVec.ofNat 32 k.val)
        = if 246 < k.val then 255#32 else BitVec.ofNat 32 k.val := by decide +kernel
    rw [hc ⟨n + b, by omega⟩]
    unfold thr
    by_cases h6 : 246 < n + b
    · rw [if_pos h6, if_pos h6, ofBits_top]
    · rw [if_neg h6, if_neg h6, ofBits_shift (n + b) (by omega) (by omega)]
  unfold step
  rw [e, hsel]
  unfold Ideal.cmp Scalar.select
  by_cases hle : thr (n + b) ≤ a <;> simp [hle]

theorem thr_mono {m n : ℕ} (h : m ≤ n) : thr m ≤ thr n := by
  unfold thr
  by_cases hn : 246 < n
  · rw [if_pos hn]; exact le_top
  · rw [if_neg hn, if_neg (by omega)]
    exact EReal.coe_le_coe_iff.2 (zpow_le_zpow_right₀ (by norm_num) (by omega))

/-- After the steps down to `2 ^ k` the field found is a lower bound, and `2 ^ k` more is none. -/
def Inv (a : EReal) (w n : ℕ) (ex : BitVec 32) : Prop :=
  ex = BitVec.ofNat 32 n ∧ (n = 0 ∨ thr n ≤ a) ∧ (∀ m, n + w ≤ m → m ≤ 255 → ¬ thr m ≤ a) ∧ n + w ≤ 256

theorem Inv.next {a : EReal} {w b : ℕ} {ex : BitVec 32} (hw : w = 2 * b) (hb : 1 ≤ b) (h : ∃ n, Inv a w n ex) :
    ∃ n, Inv a b n (step a (BitVec.ofNat 32 b) ex) := by
  obtain ⟨n, rfl, h1, h2, h3⟩ := h
  rw [step_eq a b n hb (by omega)]
  by_cases hle : thr (n + b) ≤ a
  · rw [if_pos hle]
    exact ⟨n + b, rfl, .inr hle, fun m hm hm' => h2 m (by omega) hm', by omega⟩
  · rw [if_neg hle]
    exact ⟨n, rfl, h1, fun m hm hm' hc => hle ((thr_mono hm).trans hc), by omega⟩

theorem expo_spec (a : EReal) : ∃ n, expo a = BitVec.ofNat 32 n ∧ n ≤ 255 ∧ (n = 0 ∨ thr n ≤ a) ∧ (n < 255 → a < thr (n + 1)) := by
  have h0 : ∃ n, Inv a 256 n 0#32 := ⟨0, rfl, .inl rfl, fun m hm hm' => by omega, by omega⟩
  have h7 := Inv.next (b := 128) (by norm_num) (by norm_num) h0
  have h6 := Inv.next (b := 64) (by norm_num) (by norm_num) h7
  have h5 := Inv.next (b := 32) (by norm_num) (by norm_num) h6
  have h4 := Inv.next (b := 16) (by norm_num) (by norm_num) h5
  have h3 := Inv.next (b := 8) (by norm_num) (by norm_num) h4
  have h2 := Inv.next (b := 4) (by norm_num) (by norm_num) h3
  have h1 := Inv.next (b := 2) (by norm_num) (by norm_num) h2
  obtain ⟨n, e, hl, hu, hn⟩ := Inv.next (b := 1) (by norm_num) (by norm_num) h1
  exact ⟨n, e, by omega, hl, fun h => not_le.1 (hu (n + 1) le_rfl (by omega))⟩

/-- The reference's scale: the least power of two above `a` in the table `P`, at most `2 ^ 120`; one where `a` is below the
    least normal number or infinite. -/
def rscale (P : Fin 246 → EReal) (a : EReal) : EReal :=
  if a < Ideal.ofBits .f32 0x00800000#32 ∨ a = Ideal.ofBits .f32 0x7F800000#32 then 1
  else Finset.univ.fold min (Ideal.ofBits .f32 0x7F800000#32) fun k => if a < P k then P k else Ideal.ofBits .f32 0x7B800000#32

theorem kscale_kinv (P : Fin 246 → EReal) (hP : ∀ k, P k = (((2 : ℝ) ^ ((k.val : ℤ) - 125) : ℝ) : EReal)) (a : EReal) :
    kscale (expo a) = rscale P a ∧ kinv (expo a) = Ideal.div 1 (rscale P a) := by
  have c1 : Ideal.ofBits .f32 0x00800000#32 = thr 1 := by
    rw [thr, if_neg (by norm_num), ← ofBits_shift 1 (by norm_num) (by norm_num)]; rfl
  have c2 : Ideal.ofBits .f32 0x7F800000#32 = ⊤ := by simp [Ideal.ofBits, Ideal.ieee]
  have c3 : Ideal.ofBits .f32 0x7B800000#32 = (((2 : ℝ) ^ (120 : ℤ) : ℝ) : EReal) :=
    (show Ideal.ofBits .f32 0x7B800000#32 = Ideal.ofBits .f32 (IntOp.shli .vector (BitVec.ofNat 32 247) 23#32) from rfl).trans
      ((ofBits_shift 247 (by norm_num) (by norm_num)).trans (by norm_num))
  have one : Ideal.ofBits .f32 (IntOp.shli .vector (BitVec.ofNat 32 127) 23#32) = 1 := by
    rw [ofBits_shift 127 (by norm_num) (by norm_num)]; norm_num
  obtain ⟨n, en, hn, hl, hu⟩ := expo_spec a
  by_cases h01 : n = 0 ∨ n = 255
  · have hr : rscale P a = 1 := by
      unfold rscale
      rw [if_pos]
      rcases h01 with rfl | rfl
      · left; rw [c1]; exact hu (by norm_num)
      · right
        have : thr 255 ≤ a := by rcases hl with h | h; · omega
                                 exact h
        rw [thr, if_pos (by norm_num)] at this
        rw [c2]; exact top_le_iff.1 this
    have he : expE (expo a) = 0#32 := by rw [en]; rcases h01 with rfl | rfl <;> decide
    unfold kscale kinv
    rw [he, hr]
    refine ⟨(show _ = Ideal.ofBits .f32 (IntOp.shli .vector (BitVec.ofNat 32 127) 23#32) from rfl).trans one,
      (show _ = Ideal.ofBits .f32 (IntOp.shli .vector (BitVec.ofNat 32 127) 23#32) from rfl).trans (one.trans ?_)⟩
    simp [Ideal.div]
  · push Not at h01
    have hla : thr n ≤ a := hl.resolve_left h01.1
    have hua := hu (by omega)
    have hn6 : n ≤ 246 := by
      by_contra hc
      rw [thr, if_pos (by omega)] at hla
      exact absurd (hla.trans_lt hua) (not_lt.2 le_top)
    have hk : kscale (expo a) = (((2 : ℝ) ^ ((n : ℤ) - 126) : ℝ) : EReal) := by
      have : ∀ k : Fin 256, k.val ≠ 0 → k.val ≠ 255 → IntOp.addi 127#32 (expE (BitVec.ofNat 32 k.val)) = BitVec.ofNat 32 (k.val + 1) := by
        decide +kernel
      unfold kscale
      rw [en, this ⟨n, by omega⟩ h01.1 h01.2, ofBits_shift (n + 1) (by omega) (by omega)]
      congr 2; push_cast; ring
    have hi : kinv (expo a) = (((2 : ℝ) ^ (-((n : ℤ) - 126)) : ℝ) : EReal) := by
      have : ∀ k : Fin 247, k.val ≠ 0 → IntOp.subi 127#32 (expE (BitVec.ofNat 32 k.val)) = BitVec.ofNat 32 (253 - k.val) := by
        decide +kernel
      unfold kinv
      rw [en, this ⟨n, by omega⟩ h01.1, ofBits_shift (253 - n) (by omega) (by omega)]
      congr 2; push_cast [Nat.cast_sub (show n ≤ 253 by omega)]; ring
    have hr : rscale P a = (((2 : ℝ) ^ ((n : ℤ) - 126) : ℝ) : EReal) := by
      unfold rscale
      rw [if_neg, c2, c3]
      · apply le_antisymm
        · by_cases hc : a < (((2 : ℝ) ^ ((n : ℤ) - 126) : ℝ) : EReal)
          · refine Finset.fold_min_le (c := _) |>.2 (.inr ⟨⟨n - 1, by omega⟩, Finset.mem_univ _, ?_⟩)
            have e : P ⟨n - 1, by omega⟩ = (((2 : ℝ) ^ ((n : ℤ) - 126) : ℝ) : EReal) := by
              rw [hP]; congr 2; push_cast [Nat.cast_sub (show 1 ≤ n by omega)]; ring
            rw [e, if_pos hc]
          · have hn' : n = 246 := by
              by_contra hne
              rw [thr, if_neg (by omega)] at hua
              apply hc
              refine hua.trans_eq ?_
              congr 2; push_cast; ring
            subst hn'
            refine Finset.fold_min_le (c := _) |>.2 (.inr ⟨⟨0, by omega⟩, Finset.mem_univ _, ?_⟩)
            split_ifs with h
            · exfalso
              apply not_lt.2 (le_of_not_gt hc)
              refine h.trans_le ?_
              rw [hP]; exact EReal.coe_le_coe_iff.2 (zpow_le_zpow_right₀ (by norm_num) (by norm_num))
            · exact le_of_eq (by norm_num)
        · refine Finset.le_fold_min (c := _) |>.2 ⟨le_top, fun k _ => ?_⟩
          split_ifs with h
          · rw [hP] at h ⊢
            rw [thr, if_neg (by omega)] at hla
            have := EReal.coe_lt_coe_iff.1 (hla.trans_lt h)
            have := (zpow_lt_zpow_iff_right₀ (by norm_num : (1 : ℝ) < 2)).1 this
            exact EReal.coe_le_coe_iff.2 (zpow_le_zpow_right₀ (by norm_num) (by omega))
          · exact EReal.coe_le_coe_iff.2 (zpow_le_zpow_right₀ (by norm_num) (by omega))
      · rw [c1, c2]
        rintro (h | h)
        · exact absurd (h.trans_le ((thr_mono (by omega)).trans hla)) (lt_irrefl _)
        · rw [h] at hua; exact absurd hua (not_lt.2 le_top)
    refine ⟨hk.trans hr.symm, ?_⟩
    rw [hi, hr, Ideal.div, if_neg]
    · rw [one_mul, zpow_neg, ← EReal.coe_inv]
    · have : ((2 : ℝ) ^ ((n : ℤ) - 126)) ≠ 0 := by positivity
      exact fun h => this (EReal.coe_eq_zero.1 h)

end Cert.Scale
-- ==== Proof.Quant.lean ====
/- The two quantisers, read off their regions: the codes and the scales they leave. -/
module

public import proofs.«01_k».proof.Proof.Ideal.Region0
public import proofs.«01_k».proof.Proof.Ideal.Region3
public import Idealize.ShloMosaic.Lib.Pipeline.ValueKit
public import Idealize.ShloMosaic.Lib.Pointwise
public import proofs.«01_k».proof.Proof.Scale

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))
open Cert.Scale

/-! ## The bisection on a column of values -/

/-- The candidate field. -/
def vadd {s : Shape} (b : BitVec 32) (ex : IVec s 32) : IVec s 32 := addi ex (broadcast s b)
/-- The candidate field, all fields above 246 standing for infinity. -/
def vsel {s : Shape} (n : IVec s 32) : IVec s 32 := select (cmpi .sgt n (broadcast s 246#32)) (broadcast s 255#32) n
/-- One step of the bisection. -/
def vstep {s : Shape} (a : FVec Ideal s .f32) (b : BitVec 32) (ex : IVec s 32) : IVec s 32 :=
  select (cmpf .oge a (bitcastToFloat .f32 (shli (vsel (vadd b ex)) (broadcast s 23#32)))) (vadd b ex) ex
/-- The exponent of the scale. -/
def vexpE {s : Shape} (ex : IVec s 32) : IVec s 32 :=
  select (ori (cmpi .eq ex (broadcast s 0#32)) (cmpi .eq ex (broadcast s 255#32))) (broadcast s 0#32) (subi ex (broadcast s 126#32))
/-- The field found. -/
def vexpo {s : Shape} (a : FVec Ideal s .f32) : IVec s 32 :=
  vstep a 1#32 (vstep a 2#32 (vstep a 4#32 (vstep a 8#32 (vstep a 16#32 (vstep a 32#32 (vstep a 64#32 (vstep a 128#32 (broadcast s 0#32))))))))

theorem vstep_at {s : Shape} (a : FVec Ideal s .f32) (b : BitVec 32) (ex : IVec s 32) (j : s.Idx) :
    vstep a b ex j = step (a j) b (ex j) := rfl
theorem vexpE_at {s : Shape} (ex : IVec s 32) (j : s.Idx) : vexpE ex j = expE (ex j) := rfl
theorem vexpo_at {s : Shape} (a : FVec Ideal s .f32) (j : s.Idx) : vexpo a j = expo (a j) := by
  unfold vexpo expo; simp only [vstep_at]; rfl

/-- The clip at the largest code. -/
def clip (v : EReal) : EReal := min (Ideal.ofBits .f32 0x43E00000#32) (max (Ideal.ofBits .f32 0xC3E00000#32) v)

/-! ## The hidden layer's quantiser -/

theorem k3_pay2_eq (x : FVec Ideal S128x128 .f32) :
    k3_pay2 (F := Ideal) x = vstep (k3_pay1 x) 32#32 (vstep (k3_pay1 x) 64#32 (vstep (k3_pay1 x) 128#32 (broadcast S128x1 0#32))) := rfl
theorem k3_pay4_eq (a : FVec Ideal S128x1 .f32) (ex : IVec S128x1 32) :
    k3_pay4 (F := Ideal) a ex k3_pay3 = vstep a 2#32 (vstep a 4#32 (vstep a 8#32 (vstep a 16#32 ex))) := rfl
theorem k3_pay6_eq (a : FVec Ideal S128x1 .f32) (ex : IVec S128x1 32) :
    k3_pay6 (F := Ideal) a ex k3_pay5 = vexpE (vstep a 1#32 ex) := rfl
theorem k3_field (h : FVec Ideal S128x16384 .f32) (x : FVec Ideal S128x128 .f32) (j) :
    k3_pay6 (F := Ideal) (k3_pay9 (F := Ideal) h x) (k3_pay10 (F := Ideal) h x) (k3_pay11 (F := Ideal) h x) j
      = expE (expo (k3_pay1 (F := Ideal) x j)) := by
  have e9 : k3_pay9 (F := Ideal) h x = k3_pay1 (F := Ideal) x := by unfold k3_pay9; frame_out
  have e10 : k3_pay10 (F := Ideal) h x = k3_pay4 (F := Ideal) (k3_pay1 (F := Ideal) x) (k3_pay2 (F := Ideal) x) k3_pay3 := by
    unfold k3_pay10; rw [e9]; frame_out
  have e11 : k3_pay11 (F := Ideal) h x = k3_pay5 := rfl
  rw [e9, e10, e11, k3_pay2_eq, k3_pay4_eq, k3_pay6_eq, vexpE_at, ← vexpo_at]; rfl

/-- A row's largest lane over 448. -/
def ROWMAX2 (a : FVec Ideal S6144x128 .f32) (r : Fin 6144) : EReal :=
  (Finset.univ.fold max (Ideal.ofBits .f32 0xFF800000#32) fun l : Fin 128 => a (ix2 r l)) * Ideal.ofBits .f32 0x3B124925#32
/-- The scales of the hidden layer. -/
def HSCALE (a : FVec Ideal S6144x128 .f32) : FVec Ideal S6144x1 .f32 := fun i => kscale (expo (ROWMAX2 a (i 0)))
/-- The codes of the hidden layer. -/
def HCODES (h : FVec Ideal S6144x16384 .f32) (a : FVec Ideal S6144x128 .f32) : FVec Ideal S6144x16384 .fp8e4m3 := fun i =>
  clip (h (ix2 (i 0) (i 1)) * kinv (expo (ROWMAX2 a (i 0))))

theorem idx3 : ∀ t : Fin cfg3.N, win3_0.index t = ![t.val, 0] ∧ win3_1.index t = ![t.val, 0]
    ∧ win3_2.index t = ![t.val, 0] ∧ win3_3.index t = ![t.val, 0] :=
  (by decide +kernel : ∀ t : Fin grid3.N, _)

theorem rowmax3 (c : Dev nD) (t : Fin cfg3.N) (y : S128x1.Idx) (r : Fin 6144) (hr : r.val = t.val * 128 + (y 0 : ℕ)) :
    k3_pay1 (F := Ideal) (iblk3 V c 1 t) y = ROWMAX2 (V c main_v22_1) r := by
  pointwise [k3_pay1, ROWMAX2]
  blk_point [iblk3, idx3 t]

theorem arr3_3 (c : Dev nD) : (dat3 V c).arrAt 3 cfg3.N = HSCALE (V c main_v22_1) := by
  refine (dat3 V c).arrAt_eq_of_covers 3 _ (by decide +kernel) fun t _ y => ?_
  blk_simp
  rw [after3_3]; frame_out
  have h := k3_field (iblk3 V c 0 t) (iblk3 V c 1 t) y
  rw [rowmax3 V c t y ((((cfg3.win 3).blk t).view.emb y) 0) (by blk_simp [idx3 t])] at h
  exact congrArg (fun e => Ideal.ofBits .f32 (IntOp.shli .vector (IntOp.addi 127#32 e) 23#32)) h

theorem k3_codes (a : FVec Ideal S128x1 .f32) (ex n) (h : FVec Ideal S128x16384 .f32) (y) :
    k3_pay8 (F := Ideal) a ex n h y
      = clip (h (ix2 (y 0) (y 1)) * Ideal.ofBits .f32 (IntOp.shli .vector (IntOp.subi 127#32 (k3_pay6 (F := Ideal) a ex n (ix2 (y 0) 0))) 23#32)) := by
  pointwise [k3_pay8, clip]

theorem arr3_2 (c : Dev nD) : (dat3 V c).arrAt 2 cfg3.N = HCODES (V c main_v22_0) (V c main_v22_1) := by
  refine (dat3 V c).arrAt_eq_of_covers 2 _ (by decide +kernel) fun t _ y => ?_
  blk_simp
  rw [after3_2]; frame_out
  have h := k3_field (iblk3 V c 0 t) (iblk3 V c 1 t) (ix2 (y 0) 0)
  rw [rowmax3 V c t (ix2 (y 0) 0) ((((cfg3.win 2).blk t).view.emb y) 0) (by blk_simp [idx3 t])] at h
  refine (k3_codes _ _ _ _ y).trans ?_
  refine congrArg clip (congr_arg₂ (· * ·) ?_ (congrArg (fun e => Ideal.ofBits .f32 (IntOp.shli .vector (IntOp.subi 127#32 e) 23#32)) h))
  blk_point [iblk3, idx3 t]

/-! ## The normalisation and its quantiser -/

/-- Each row over the root of its mean square (plus a small constant), times the weight. -/
def XN (x : FVec Ideal S6144x4096 .bf16) (g : FVec Ideal S1x4096 .f32) : FVec Ideal S6144x4096 .f32 := fun i =>
  x (ix2 (i 0) (i 1)) * Ideal.rsqrt (Ideal.div (∑ k : Fin 4096, x (ix2 (i 0) k) * x (ix2 (i 0) k)) (Ideal.ofBits .f32 0x45800000#32)
    + Ideal.ofBits .f32 0x358637BD#32) * g (ix2 0 (i 1))
/-- A row's largest magnitude over 448. -/
def ROWMAX0 (v : FVec Ideal S6144x4096 .f32) (r : Fin 6144) : EReal :=
  (Finset.univ.fold max (Ideal.ofBits .f32 0xFF800000#32) fun l : Fin 4096 => absf v (ix2 r l)) * Ideal.ofBits .f32 0x3B124925#32
/-- The scales of the normalised rows. -/
def XSCALE (v : FVec Ideal S6144x4096 .f32) : FVec Ideal S6144x1 .f32 := fun i => kscale (expo (ROWMAX0 v (i 0)))
/-- The codes of the normalised rows. -/
def XCODES (v : FVec Ideal S6144x4096 .f32) : FVec Ideal S6144x4096 .fp8e4m3 := fun i =>
  clip (v (ix2 (i 0) (i 1)) * kinv (expo (ROWMAX0 v (i 0))))

theorem k0_pay4_eq (x g) : k0_pay4 (F := Ideal) x g = vstep (k0_pay3 x g) 128#32 (broadcast S256x1 0#32) := rfl
theorem k0_pay5_eq (x g) : k0_pay5 (F := Ideal) x g = vadd 64#32 (k0_pay4 (F := Ideal) x g) := rfl
theorem k0_pay6_eq (x g) : k0_pay6 (F := Ideal) x g = vsel (vadd 64#32 (k0_pay4 (F := Ideal) x g)) := rfl
theorem k0_pay8_eq (a : FVec Ideal S256x1 .f32) (ex : IVec S256x1 32) :
    k0_pay8 (F := Ideal) a ex (vadd 64#32 ex) (vsel (vadd 64#32 ex)) k0_pay7 = vstep a 8#32 (vstep a 16#32 (vstep a 32#32 (vstep a 64#32 ex))) := rfl
theorem k0_pay12_eq (a : FVec Ideal S256x1 .f32) (ex : IVec S256x1 32) :
    k0_pay12 (F := Ideal) a ex (vadd 4#32 ex) (vsel (vadd 4#32 ex)) k0_pay11 = vexpE (vstep a 1#32 (vstep a 2#32 (vstep a 4#32 ex))) := rfl
theorem k0_field (x : FVec Ideal S256x4096 .bf16) (g : FVec Ideal S1x4096 .f32) (j) :
    k0_pay12 (F := Ideal) (k0_pay15 (F := Ideal) x g) (k0_pay20 (F := Ideal) x g) (k0_pay21 (F := Ideal) x g) (k0_pay22 (F := Ideal) x g) (k0_pay23 (F := Ideal) x g) j
      = expE (expo (k0_pay3 (F := Ideal) x g j)) := by
  have e15 : k0_pay15 (F := Ideal) x g = k0_pay3 x g := by unfold k0_pay15; frame_out
  have e20 : k0_pay20 (F := Ideal) x g = vstep (k0_pay3 x g) 8#32 (vstep (k0_pay3 x g) 16#32 (vstep (k0_pay3 x g) 32#32
      (vstep (k0_pay3 x g) 64#32 (vstep (k0_pay3 x g) 128#32 (broadcast S256x1 0#32))))) := by
    unfold k0_pay20 k0_pay16 k0_pay17 k0_pay18 k0_pay19
    rw [e15]
    frame_out
    rw [k0_pay5_eq, k0_pay6_eq, k0_pay8_eq, k0_pay4_eq]
  have e21 : k0_pay21 (F := Ideal) x g = vadd 4#32 (k0_pay20 (F := Ideal) x g) := rfl
  have e22 : k0_pay22 (F := Ideal) x g = vsel (vadd 4#32 (k0_pay20 (F := Ideal) x g)) := rfl
  have e23 : k0_pay23 (F := Ideal) x g = k0_pay11 := rfl
  rw [e15, e21, e22, e23, k0_pay12_eq, e20, vexpE_at, ← vexpo_at]; rfl

theorem idx0 : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem xn0 (c : Dev nD) (t : Fin cfg0.N) (y : S256x4096.Idx) (i : S6144x4096.Idx)
    (h0 : (i 0 : ℕ) = t.val * 256 + (y 0 : ℕ)) (h1 : (i 1 : ℕ) = (y 1 : ℕ)) :
    k0_pay2 (F := Ideal) (iblk0 V c 0 t) (iblk0 V c 1 t) y = XN (V c main_v0) (V c main_v19) i := by
  pointwise [k0_pay2, XN]
  blk_point [iblk0, idx0 t]

theorem rowmax0 (c : Dev nD) (t : Fin cfg0.N) (y : S256x1.Idx) (r : Fin 6144) (hr : r.val = t.val * 256 + (y 0 : ℕ)) :
    k0_pay3 (F := Ideal) (iblk0 V c 0 t) (iblk0 V c 1 t) y = ROWMAX0 (XN (V c main_v0) (V c main_v19)) r := by
  have e : ∀ l : Fin 4096, FloatOps.absf (k0_pay2 (F := Ideal) (iblk0 V c 0 t) (iblk0 V c 1 t) (ix2 (y 0) l))
      = absf (XN (V c main_v0) (V c main_v19)) (ix2 r l) := fun l =>
    congrArg (FloatOps.absf (F := Ideal) (φ := .f32)) (xn0 V c t (ix2 (y 0) l) (ix2 r l) hr rfl)
  pointwise [k0_pay3, ROWMAX0]
  simp only [e]
  rfl

theorem arr0_3 (c : Dev nD) : (dat0 V c).arrAt 3 cfg0.N = XSCALE (XN (V c main_v0) (V c main_v19)) := by
  refine (dat0 V c).arrAt_eq_of_covers 3 _ (by decide +kernel) fun t _ y => ?_
  blk_simp
  rw [after0_3]; frame_out
  have h := k0_field (iblk0 V c 0 t) (iblk0 V c 1 t) y
  rw [rowmax0 V c t y ((((cfg0.win 3).blk t).view.emb y) 0) (by blk_simp [idx0 t])] at h
  exact congrArg (fun e => Ideal.ofBits .f32 (IntOp.shli .vector (IntOp.addi 127#32 e) 23#32)) h

theorem k0_codes (v : FVec Ideal S256x4096 .f32) (a : FVec Ideal S256x1 .f32) (p q r s) (y) :
    k0_pay1 (F := Ideal) v (k0_pay14 (F := Ideal) a p q r s) y
      = clip (v y * Ideal.ofBits .f32 (IntOp.shli .vector (IntOp.subi 127#32 (k0_pay12 (F := Ideal) a p q r s (ix2 (y 0) 0))) 23#32)) := by
  pointwise [k0_pay1, k0_pay14, clip]

theorem arr0_2 (c : Dev nD) : (dat0 V c).arrAt 2 cfg0.N = XCODES (XN (V c main_v0) (V c main_v19)) := by
  refine (dat0 V c).arrAt_eq_of_covers 2 _ (by decide +kernel) fun t _ y => ?_
  blk_simp
  rw [after0_2]; frame_out
  have h := k0_field (iblk0 V c 0 t) (iblk0 V c 1 t) (ix2 (y 0) 0)
  rw [rowmax0 V c t (ix2 (y 0) 0) ((((cfg0.win 2).blk t).view.emb y) 0) (by blk_simp [idx0 t])] at h
  refine (k0_codes _ _ _ _ _ _ y).trans ?_
  refine congrArg clip (congr_arg₂ (· * ·) ?_ (congrArg (fun e => Ideal.ofBits .f32 (IntOp.shli .vector (IntOp.subi 127#32 e) 23#32)) h))
  refine xn0 V c t y _ ?_ ?_ <;> blk_simp [idx0 t]

end Cert.KernelIdeal.Value
-- ==== Proof.Qkv.lean ====
/- The three projections and the two row quantisers of the key and the value, read off their region: the five arrays it leaves. -/
module

public import proofs.«01_k».proof.Proof.Ideal.Region1
public import proofs.«01_k».proof.Proof.Quant
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen
open Cert.Scale

variable (V : (c : Dev nD) → (b : Ref sig .tc) → Buf (Elt Ideal) ((c : Thread nD τ).loc b))

/-! ## The closed forms -/

/-- The product of the codes with the weight, scaled by row and by column, at row `r` and column `n`. -/
def ZAT (xc : FVec Ideal S6144x4096 .fp8e4m3) (xs : FVec Ideal S6144x1 .f32)
    (w : FVec Ideal S4096x37376 .fp8e4m3) (ws : FVec Ideal S1x37376 .f32) (r : Fin 6144) (n : Fin 37376) : EReal :=
  (∑ k : Fin 4096, xc (ix2 r k) * w (ix2 k n)) * xs (ix2 r 0) * ws (ix2 0 n)

/-- The rotation of 256 values by 128 angles: each value of the first half with its partner in the second. -/
def rot (u : Fin 256 → EReal) (c s : Fin 128 → EReal) (l : Fin 256) : EReal :=
  if h : l.val < 128 then u l * c ⟨l.val, h⟩ - u ⟨l.val + 128, by omega⟩ * s ⟨l.val, h⟩
  else u l * c ⟨l.val - 128, by omega⟩ + u ⟨l.val - 128, by omega⟩ * s ⟨l.val - 128, by omega⟩

/-- The query: every group of 256 columns rotated. -/
def QROT (xc : FVec Ideal S6144x4096 .fp8e4m3) (xs : FVec Ideal S6144x1 .f32)
    (w : FVec Ideal S4096x37376 .fp8e4m3) (ws : FVec Ideal S1x37376 .f32) (co si : FVec Ideal S6144x128 .f32) : FVec Ideal S6144x4096 .bf16 :=
  fun i => rot (fun l => ZAT xc xs w ws (i 0) ⟨(i 1).val / 256 * 256 + l.val, by have h : (i 1 : ℕ) < 4096 := (i 1 : Fin 4096).isLt; omega⟩)
    (fun l => co (ix2 (i 0) l)) (fun l => si (ix2 (i 0) l)) ⟨(i 1).val % 256, Nat.mod_lt _ (by norm_num)⟩

/-- The key: the 256 columns from 4096 on, rotated. -/
def KROT (xc : FVec Ideal S6144x4096 .fp8e4m3) (xs : FVec Ideal S6144x1 .f32)
    (w : FVec Ideal S4096x37376 .fp8e4m3) (ws : FVec Ideal S1x37376 .f32) (co si : FVec Ideal S6144x128 .f32) : FVec Ideal S6144x256 .f32 :=
  fun i => rot (fun l => ZAT xc xs w ws (i 0) ⟨4096 + l.val, by omega⟩)
    (fun l => co (ix2 (i 0) l)) (fun l => si (ix2 (i 0) l)) (i 1)

/-- The value: the 256 columns from 4352 on. -/
def VPART (xc : FVec Ideal S6144x4096 .fp8e4m3) (xs : FVec Ideal S6144x1 .f32)
    (w : FVec Ideal S4096x37376 .fp8e4m3) (ws : FVec Ideal S1x37376 .f32) : FVec Ideal S6144x256 .f32 :=
  fun i => ZAT xc xs w ws (i 0) ⟨4352 + (i 1).val, by have h : (i 1 : ℕ) < 256 := (i 1 : Fin 256).isLt; omega⟩

/-- A row's largest magnitude over 448, for rows of 256. -/
def ROWMAXK (v : FVec Ideal S6144x256 .f32) (r : Fin 6144) : EReal :=
  (Finset.univ.fold max (Ideal.ofBits .f32 0xFF800000#32) fun l : Fin 256 => absf v (ix2 r l)) * Ideal.ofBits .f32 0x3B124925#32
/-- The scales of rows of 256. -/
def KSCALE (v : FVec Ideal S6144x256 .f32) : FVec Ideal S6144x1 .f32 := fun i => kscale (expo (ROWMAXK v (i 0)))
/-- The codes of rows of 256. -/
def KCODES (v : FVec Ideal S6144x256 .f32) : FVec Ideal S6144x256 .fp8e4m3 := fun i =>
  clip (v (ix2 (i 0) (i 1)) * kinv (expo (ROWMAXK v (i 0))))

/-! ## The bisections of the last point of a row of blocks -/

theorem k1_pay12_eq (v : FVec Ideal S1024x256 .f32) :
    k1_pay12 (F := Ideal) v = vstep (k1_pay11 v) 32#32 (vstep (k1_pay11 v) 64#32 (vstep (k1_pay11 v) 128#32 (broadcast S1024x1 0#32))) := rfl
theorem k1_pay13_eq (v : FVec Ideal S1024x256 .f32) : k1_pay13 (F := Ideal) v = vadd 16#32 (k1_pay12 (F := Ideal) v) := rfl
theorem k1_pay15_eq (a : FVec Ideal S1024x1 .f32) (ex : IVec S1024x1 32) :
    k1_pay15 (F := Ideal) a ex (vadd 16#32 ex) k1_pay14 = vstep a 2#32 (vstep a 4#32 (vstep a 8#32 (vstep a 16#32 ex))) := rfl
theorem k1_pay16_eq (a : FVec Ideal S1024x1 .f32) (ex n p) :
    k1_pay16 (F := Ideal) a ex n p = vadd 1#32 (k1_pay15 (F := Ideal) a ex n p) := rfl
theorem k1_pay18_eq (a : FVec Ideal S1024x1 .f32) (ex : IVec S1024x1 32) :
    k1_pay18 (F := Ideal) a ex (vadd 1#32 ex) k1_pay17 = vexpE (vstep a 1#32 ex) := rfl
theorem k1_kfield (v : FVec Ideal S1024x256 .f32) (j) :
    k1_pay18 (F := Ideal) (k1_pay11 v) (k1_pay15 (F := Ideal) (k1_pay11 v) (k1_pay12 (F := Ideal) v) (k1_pay13 (F := Ideal) v) k1_pay14)
        (k1_pay16 (F := Ideal) (k1_pay11 v) (k1_pay12 (F := Ideal) v) (k1_pay13 (F := Ideal) v) k1_pay14) k1_pay17 j
      = expE (expo (k1_pay11 (F := Ideal) v j)) := by
  rw [k1_pay16_eq, k1_pay13_eq, k1_pay15_eq, k1_pay18_eq, k1_pay12_eq, vexpE_at, ← vexpo_at]; rfl

/-- The lower bits of the second bisection. -/
theorem k1_pay25_eq (v : FVec Ideal S1024x256 .f32) :
    k1_pay25 (F := Ideal) (k1_pay21 v) k1_pay22 k1_pay23 (k1_pay24 (F := Ideal) v)
      = vstep (k1_pay21 v) 16#32 (vstep (k1_pay21 v) 32#32 (vstep (k1_pay21 v) 64#32 (vstep (k1_pay21 v) 128#32 (broadcast S1024x1 0#32)))) := rfl
theorem k1_pay26_eq (a : FVec Ideal S1024x1 .f32) (p q r) :
    k1_pay26 (F := Ideal) a p q r = vadd 8#32 (k1_pay25 (F := Ideal) a p q r) := rfl
theorem k1_pay27_eq (a : FVec Ideal S1024x1 .f32) (p q r) :
    k1_pay27 (F := Ideal) a p q r
      = cmpf .oge a (bitcastToFloat .f32 (shli (vsel (vadd 8#32 (k1_pay25 (F := Ideal) a p q r))) (broadcast S1024x1 23#32))) := rfl
theorem k1_pay28_eq (a : FVec Ideal S1024x1 .f32) (ex : IVec S1024x1 32) :
    k1_pay28 (F := Ideal) a ex (vadd 8#32 ex) (cmpf .oge a (bitcastToFloat .f32 (shli (vsel (vadd 8#32 ex)) (broadcast S1024x1 23#32))))
      = vexpE (vstep a 1#32 (vstep a 2#32 (vstep a 4#32 (vstep a 8#32 ex)))) := rfl
theorem k1_vfield (v : FVec Ideal S1024x256 .f32) (j) :
    k1_pay28 (F := Ideal) (k1_pay21 v) (k1_pay25 (F := Ideal) (k1_pay21 v) k1_pay22 k1_pay23 (k1_pay24 (F := Ideal) v))
        (k1_pay26 (F := Ideal) (k1_pay21 v) k1_pay22 k1_pay23 (k1_pay24 (F := Ideal) v))
        (k1_pay27 (F := Ideal) (k1_pay21 v) k1_pay22 k1_pay23 (k1_pay24 (F := Ideal) v)) j
      = expE (expo (k1_pay21 (F := Ideal) v j)) := by
  rw [k1_pay26_eq, k1_pay27_eq, k1_pay28_eq, k1_pay25_eq, vexpE_at, ← vexpo_at]; rfl

theorem idx1 : ∀ t : Fin cfg1.N, win1_0.index t = ![t.val / 9, 0] ∧ win1_1.index t = ![t.val / 9, 0]
    ∧ win1_2.index t = ![0, t.val % 9] ∧ win1_3.index t = ![0, t.val % 9]
    ∧ win1_4.index t = ![t.val / 9, 0] ∧ win1_5.index t = ![t.val / 9, 0]
    ∧ win1_6.index t = ![t.val / 9, min (t.val % 9) 7] ∧ win1_7.index t = ![t.val / 9, 0] ∧ win1_8.index t = ![t.val / 9, 0]
    ∧ win1_9.index t = ![t.val / 9, 0] ∧ win1_10.index t = ![t.val / 9, 0] :=
  (by decide +kernel : ∀ t : Fin grid1.N, _)

theorem flush1_6 : ∀ t : Fin cfg1.N, (cfg1.win 6).flush t = true ↔ t.val % 9 ≠ 7 :=
  (by decide +kernel : ∀ t : Fin grid1.N, _)

/-- The projection at one point. -/
theorem z1 (c : Dev nD) (t : Fin cfg1.N) (y : S1024x512.Idx) (r : Fin 6144) (n : Fin 37376)
    (h0 : r.val = t.val / 9 * 1024 + (y 0 : ℕ)) (h1 : n.val = t.val % 9 * 512 + (y 1 : ℕ)) :
    k1_pay1 (F := Ideal) (iblk1 V c 0 t) (iblk1 V c 2 t) (iblk1 V c 1 t) (iblk1 V c 3 t) y
      = ZAT (V c main_v20_0) (V c main_v20_1) (V c main_arg3) (V c main_v1) r n := by
  pointwise [k1_pay1, ZAT]
  blk_point [iblk1, idx1 t]

theorem rot_first (x0 x1 x2 x3 x4 x5) (y : S1024x256.Idx) : k1_pay4 (F := Ideal) x0 x1 x2 x3 x4 x5 y
    = rot (fun l => k1_pay1 (F := Ideal) x0 x1 x2 x3 (ix2 (y 0) ⟨l.val, by omega⟩))
      (fun l => x4 (ix2 (y 0) l)) (fun l => x5 (ix2 (y 0) l)) (y 1) := by
  pointwise [k1_pay4, k1_pay2, k1_pay3, rot]
  have hl : (y 1 : ℕ) < 256 := (y 1 : Fin 256).isLt
  split_ifs with h
  · simp only [Nat.add_comm 128]
  · simp only [Nat.add_sub_cancel' (not_lt.1 h)]
  any_goals exact absurd rfl ‹_›

theorem rot_second (x0 x1 x2 x3 x4 x5) (y : S1024x256.Idx) : k1_pay6 (F := Ideal) x0 x1 x2 x3 x4 x5 y
    = rot (fun l => k1_pay1 (F := Ideal) x0 x1 x2 x3 (ix2 (y 0) ⟨256 + l.val, by omega⟩))
      (fun l => x4 (ix2 (y 0) l)) (fun l => x5 (ix2 (y 0) l)) (y 1) := by
  pointwise [k1_pay6, k1_pay2, k1_pay3, rot]
  have hl : (y 1 : ℕ) < 256 := (y 1 : Fin 256).isLt
  split_ifs with h
  · simp only [Nat.add_comm 128, Nat.add_assoc]
  · simp only [Nat.add_sub_cancel' (not_lt.1 h), Nat.add_assoc]
  any_goals exact absurd rfl ‹_›

theorem cos1 (c : Dev nD) (t : Fin cfg1.N) (a : Fin 1024) (l : Fin 128) (r : Fin 6144) (h0 : r.val = t.val / 9 * 1024 + a.val) :
    (iblk1 V c 4 t : FVec Ideal S1024x128 .f32) (ix2 a l) = (V c main_v17 : FVec Ideal S6144x128 .f32) (ix2 r l) := by
  blk_point [iblk1, idx1 t]
theorem sin1 (c : Dev nD) (t : Fin cfg1.N) (a : Fin 1024) (l : Fin 128) (r : Fin 6144) (h0 : r.val = t.val / 9 * 1024 + a.val) :
    (iblk1 V c 5 t : FVec Ideal S1024x128 .f32) (ix2 a l) = (V c main_v18 : FVec Ideal S6144x128 .f32) (ix2 r l) := by
  blk_point [iblk1, idx1 t]

/-- The rotated first half of a point's block. -/
theorem first1 (c : Dev nD) (t : Fin cfg1.N) (y : S1024x256.Idx) (r : Fin 6144) (n : Fin 256 → Fin 37376)
    (h0 : r.val = t.val / 9 * 1024 + (y 0 : ℕ)) (h1 : ∀ l, (n l).val = t.val % 9 * 512 + l.val) :
    k1_pay4 (F := Ideal) (iblk1 V c 0 t) (iblk1 V c 2 t) (iblk1 V c 1 t) (iblk1 V c 3 t) (iblk1 V c 4 t) (iblk1 V c 5 t) y
      = rot (fun l => ZAT (V c main_v20_0) (V c main_v20_1) (V c main_arg3) (V c main_v1) r (n l))
        (fun l => (V c main_v17 : FVec Ideal S6144x128 .f32) (ix2 r l)) (fun l => (V c main_v18 : FVec Ideal S6144x128 .f32) (ix2 r l)) (y 1) := by
  rw [rot_first]
  have e1 := fun l : Fin 256 => z1 V c t (ix2 (y 0) ⟨l.val, by omega⟩) r (n l) h0 (h1 l)
  have e2 := fun l : Fin 128 => cos1 V c t (y 0) l r h0
  have e3 := fun l : Fin 128 => sin1 V c t (y 0) l r h0
  exact congrFun (congr (congr (congrArg rot (funext e1)) (funext e2)) (funext e3)) (y 1)

/-- The rotated second half of a point's block. -/
theorem second1 (c : Dev nD) (t : Fin cfg1.N) (y : S1024x256.Idx) (r : Fin 6144) (n : Fin 256 → Fin 37376)
    (h0 : r.val = t.val / 9 * 1024 + (y 0 : ℕ)) (h1 : ∀ l, (n l).val = t.val % 9 * 512 + (256 + l.val)) :
    k1_pay6 (F := Ideal) (iblk1 V c 0 t) (iblk1 V c 2 t) (iblk1 V c 1 t) (iblk1 V c 3 t) (iblk1 V c 4 t) (iblk1 V c 5 t) y
      = rot (fun l => ZAT (V c main_v20_0) (V c main_v20_1) (V c main_arg3) (V c main_v1) r (n l))
        (fun l => (V c main_v17 : FVec Ideal S6144x128 .f32) (ix2 r l)) (fun l => (V c main_v18 : FVec Ideal S6144x128 .f32) (ix2 r l)) (y 1) := by
  rw [rot_second]
  have e1 := fun l : Fin 256 => z1 V c t (ix2 (y 0) ⟨256 + l.val, by omega⟩) r (n l) h0 (h1 l)
  have e2 := fun l : Fin 128 => cos1 V c t (y 0) l r h0
  have e3 := fun l : Fin 128 => sin1 V c t (y 0) l r h0
  exact congrFun (congr (congr (congrArg rot (funext e1)) (funext e2)) (funext e3)) (y 1)

/-! ## The key -/

/-- The key of the region's operands. -/
abbrev KV (c : Dev nD) : FVec Ideal S6144x256 .f32 :=
  KROT (V c main_v20_0) (V c main_v20_1) (V c main_arg3) (V c main_v1) (V c main_v17) (V c main_v18)
/-- The value of the region's operands. -/
abbrev VV (c : Dev nD) : FVec Ideal S6144x256 .f32 := VPART (V c main_v20_0) (V c main_v20_1) (V c main_arg3) (V c main_v1)

theorem key1 (c : Dev nD) (t : Fin cfg1.N) (ht : t.val % 9 = 8) (y : S1024x256.Idx) (r : Fin 6144) (h0 : r.val = t.val / 9 * 1024 + (y 0 : ℕ)) :
    k1_pay4 (F := Ideal) (iblk1 V c 0 t) (iblk1 V c 2 t) (iblk1 V c 1 t) (iblk1 V c 3 t) (iblk1 V c 4 t) (iblk1 V c 5 t) y
      = KV V c (ix2 r (y 1)) :=
  first1 V c t y r (fun l => ⟨4096 + l.val, by omega⟩) h0 (fun l => by show 4096 + l.val = _; omega)

theorem value1 (c : Dev nD) (t : Fin cfg1.N) (ht : t.val % 9 = 8) (y : S1024x256.Idx) (r : Fin 6144) (h0 : r.val = t.val / 9 * 1024 + (y 0 : ℕ)) :
    k1_pay10 (F := Ideal) (k1_pay1 (F := Ideal) (iblk1 V c 0 t) (iblk1 V c 2 t) (iblk1 V c 1 t) (iblk1 V c 3 t)) y
      = VV V c (ix2 r (y 1)) := by
  have hl : (y 1 : ℕ) < 256 := (y 1 : Fin 256).isLt
  have e : ∀ v : FVec Ideal S1024x512 .f32, k1_pay10 (F := Ideal) v y = v (ix2 (y 0) ⟨256 + (y 1 : ℕ), by omega⟩) := by
    intro v; pointwise [k1_pay10]
  rw [e]
  exact z1 V c t _ r ⟨4352 + (y 1 : ℕ), by omega⟩ h0 (by show 4352 + (y 1 : ℕ) = _ + (256 + (y 1 : ℕ)); omega)

theorem kmax (v : FVec Ideal S1024x256 .f32) (y : S1024x1.Idx) : k1_pay11 (F := Ideal) v y
    = (Finset.univ.fold max (Ideal.ofBits .f32 0xFF800000#32) fun l : Fin 256 => absf v (ix2 (y 0) l)) * Ideal.ofBits .f32 0x3B124925#32 := by
  pointwise [k1_pay11]
theorem vmax (v : FVec Ideal S1024x256 .f32) (y : S1024x1.Idx) : k1_pay21 (F := Ideal) v y
    = (Finset.univ.fold max (Ideal.ofBits .f32 0xFF800000#32) fun l : Fin 256 => absf v (ix2 (y 0) l)) * Ideal.ofBits .f32 0x3B124925#32 := by
  pointwise [k1_pay21]

theorem rowmaxk (v : FVec Ideal S1024x256 .f32) (u : FVec Ideal S6144x256 .f32) (a : Fin 1024) (r : Fin 6144)
    (h : ∀ l : Fin 256, v (ix2 a l) = u (ix2 r l)) :
    (Finset.univ.fold max (Ideal.ofBits .f32 0xFF800000#32) fun l : Fin 256 => absf v (ix2 a l)) * Ideal.ofBits .f32 0x3B124925#32 = ROWMAXK u r := by
  have e : (fun l : Fin 256 => absf v (ix2 a l)) = fun l => absf u (ix2 r l) :=
    funext fun l => congrArg (FloatOps.absf (F := Ideal) (φ := .f32)) (h l)
  rw [e]; rfl

theorem kmax1 (c : Dev nD) (t : Fin cfg1.N) (ht : t.val % 9 = 8) (y : S1024x1.Idx) (r : Fin 6144) (hr : r.val = t.val / 9 * 1024 + (y 0 : ℕ)) :
    k1_pay11 (F := Ideal) (k1_pay4 (F := Ideal) (iblk1 V c 0 t) (iblk1 V c 2 t) (iblk1 V c 1 t) (iblk1 V c 3 t) (iblk1 V c 4 t) (iblk1 V c 5 t)) y
      = ROWMAXK (KV V c) r :=
  (kmax _ y).trans (rowmaxk _ (KV V c) (y 0) r fun l => key1 V c t ht (ix2 (y 0) l) r hr)
theorem vmax1 (c : Dev nD) (t : Fin cfg1.N) (ht : t.val % 9 = 8) (y : S1024x1.Idx) (r : Fin 6144) (hr : r.val = t.val / 9 * 1024 + (y 0 : ℕ)) :
    k1_pay21 (F := Ideal) (k1_pay10 (F := Ideal) (k1_pay1 (F := Ideal) (iblk1 V c 0 t) (iblk1 V c 2 t) (iblk1 V c 1 t) (iblk1 V c 3 t))) y
      = ROWMAXK (VV V c) r :=
  (vmax _ y).trans (rowmaxk _ (VV V c) (y 0) r fun l => value1 V c t ht (ix2 (y 0) l) r hr)

theorem arr1_8 (c : Dev nD) : (dat1 V c).arrAt 8 cfg1.N = KSCALE (KV V c) := by
  refine (dat1 V c).arrAt_eq_of_covers 8 _ (by decide +kernel) fun t hf y => ?_
  have ht := (flush1_8 t).mp hf
  blk_simp
  rw [after1_8, outsAt1_B V c t (by omega) ht]; frame_out
  have h := k1_kfield (k1_pay4 (F := Ideal) (iblk1 V c 0 t) (iblk1 V c 2 t) (iblk1 V c 1 t) (iblk1 V c 3 t) (iblk1 V c 4 t) (iblk1 V c 5 t)) y
  rw [kmax1 V c t ht y ((((cfg1.win 8).blk t).view.emb y) 0) (by blk_simp [idx1 t])] at h
  exact congrArg (fun e => Ideal.ofBits .f32 (IntOp.shli .vector (IntOp.addi 127#32 e) 23#32)) h

theorem arr1_10 (c : Dev nD) : (dat1 V c).arrAt 10 cfg1.N = KSCALE (VV V c) := by
  refine (dat1 V c).arrAt_eq_of_covers 10 _ (by decide +kernel) fun t hf y => ?_
  have ht := (flush1_10 t).mp hf
  blk_simp
  rw [after1_10, outsAt1_B V c t (by omega) ht]; frame_out
  have h := k1_vfield (k1_pay10 (F := Ideal) (k1_pay1 (F := Ideal) (iblk1 V c 0 t) (iblk1 V c 2 t) (iblk1 V c 1 t) (iblk1 V c 3 t))) y
  rw [vmax1 V c t ht y ((((cfg1.win 10).blk t).view.emb y) 0) (by blk_simp [idx1 t])] at h
  exact congrArg (fun e => Ideal.ofBits .f32 (IntOp.shli .vector (IntOp.addi 127#32 e) 23#32)) h

theorem k1_codes (x0 x1 x2 x3 x4 x5) (s : FVec Ideal S1024x1 .f32) (y : S1024x256.Idx) :
    k1_pay8 (F := Ideal) x0 x1 x2 x3 x4 x5 s y = clip (k1_pay4 (F := Ideal) x0 x1 x2 x3 x4 x5 y * s (ix2 (y 0) 0)) := by
  pointwise [k1_pay8, clip]

theorem k1_vcodes (v : FVec Ideal S1024x256 .f32) (e : IVec S1024x1 32) (y : S1024x256.Idx) :
    k1_pay9 (F := Ideal) v e y
      = clip (v y * Ideal.ofBits .f32 (IntOp.shli .vector (IntOp.subi 127#32 (e (ix2 (y 0) 0))) 23#32)) := by
  pointwise [k1_pay9, clip]

theorem arr1_7 (c : Dev nD) : (dat1 V c).arrAt 7 cfg1.N = KCODES (KV V c) := by
  refine (dat1 V c).arrAt_eq_of_covers 7 _ (by decide +kernel) fun t hf y => ?_
  have ht := (flush1_7 t).mp hf
  blk_simp
  rw [after1_7, outsAt1_B V c t (by omega) ht]; frame_out
  have h := k1_kfield (k1_pay4 (F := Ideal) (iblk1 V c 0 t) (iblk1 V c 2 t) (iblk1 V c 1 t) (iblk1 V c 3 t) (iblk1 V c 4 t) (iblk1 V c 5 t)) (ix2 (y 0) 0)
  have hr : ((((cfg1.win 7).blk t).view.emb y) 0).val = t.val / 9 * 1024 + (y 0 : ℕ) := by blk_simp [idx1 t]
  rw [kmax1 V c t ht (ix2 (y 0) 0) _ hr] at h
  refine (k1_codes _ _ _ _ _ _ _ y).trans ?_
  refine congrArg clip (congr_arg₂ (· * ·) ?_ (congrArg (fun e => Ideal.ofBits .f32 (IntOp.shli .vector (IntOp.subi 127#32 e) 23#32)) h))
  refine (key1 V c t ht y _ hr).trans (congrArg (KV V c) ?_)
  exact congrArg (ix2 _) (Fin.ext (by blk_simp [idx1 t]) : y 1 = (((cfg1.win 7).blk t).view.emb y) 1)

theorem arr1_9 (c : Dev nD) : (dat1 V c).arrAt 9 cfg1.N = KCODES (VV V c) := by
  refine (dat1 V c).arrAt_eq_of_covers 9 _ (by decide +kernel) fun t hf y => ?_
  have ht := (flush1_9 t).mp hf
  blk_simp
  rw [after1_9, outsAt1_B V c t (by omega) ht]; frame_out
  have h := k1_vfield (k1_pay10 (F := Ideal) (k1_pay1 (F := Ideal) (iblk1 V c 0 t) (iblk1 V c 2 t) (iblk1 V c 1 t) (iblk1 V c 3 t))) (ix2 (y 0) 0)
  have hr : ((((cfg1.win 9).blk t).view.emb y) 0).val = t.val / 9 * 1024 + (y 0 : ℕ) := by blk_simp [idx1 t]
  rw [vmax1 V c t ht (ix2 (y 0) 0) _ hr] at h
  refine (k1_vcodes _ _ y).trans ?_
  refine congrArg clip (congr_arg₂ (· * ·) ?_ (congrArg (fun e => Ideal.ofBits .f32 (IntOp.shli .vector (IntOp.subi 127#32 e) 23#32)) h))
  refine (value1 V c t ht y _ hr).trans (congrArg (VV V c) ?_)
  exact congrArg (ix2 _) (Fin.ext (by blk_simp [idx1 t]) : y 1 = (((cfg1.win 9).blk t).view.emb y) 1)

/-! ## The query -/

theorem q1 (c : Dev nD) (t : Fin cfg1.N) (ht : t.val % 9 ≤ 7) (y : S1024x512.Idx) (i : S6144x4096.Idx)
    (h0 : (i 0 : ℕ) = t.val / 9 * 1024 + (y 0 : ℕ)) (h1 : (i 1 : ℕ) = t.val % 9 * 512 + (y 1 : ℕ)) :
    (outsAt1 V c t.val t.isLt).1 y
      = QROT (V c main_v20_0) (V c main_v20_1) (V c main_arg3) (V c main_v1) (V c main_v17) (V c main_v18) i := by
  rw [outsAt1_A V c t ht (by omega)]
  frame_out
  have hi : (i 1 : ℕ) < 4096 := (i 1 : Fin 4096).isLt
  canon_tiles x h
  · have hx : (i 1 : ℕ) / 256 = t.val % 9 * 2 + 1 := by omega
    have hm : (i 1 : ℕ) % 256 = (x 1 : ℕ) := by omega
    refine (second1 V c t x (i 0) (fun l => ⟨(i 1 : ℕ) / 256 * 256 + l.val, by omega⟩) (by omega)
      (fun l => by show (i 1 : ℕ) / 256 * 256 + l.val = _; omega)).trans ?_
    exact congrArg (rot _ _ _) (Fin.ext hm.symm)
  · have hx : (i 1 : ℕ) / 256 = t.val % 9 * 2 := by omega
    have hm : (i 1 : ℕ) % 256 = (x 1 : ℕ) := by omega
    refine (first1 V c t x (i 0) (fun l => ⟨(i 1 : ℕ) / 256 * 256 + l.val, by omega⟩) (by omega)
      (fun l => by show (i 1 : ℕ) / 256 * 256 + l.val = _; omega)).trans ?_
    exact congrArg (rot _ _ _) (Fin.ext hm.symm)

theorem arr1_6 (c : Dev nD) : (dat1 V c).arrAt 6 cfg1.N
    = QROT (V c main_v20_0) (V c main_v20_1) (V c main_arg3) (V c main_v1) (V c main_v17) (V c main_v18) := by
  refine (dat1 V c).arrAt_eq_of_covers 6 _ (by decide +kernel) fun t hf y => ?_
  have ht := (flush1_6 t).mp hf
  blk_simp
  rw [after1_6]
  by_cases h7 : t.val % 9 ≤ 7
  · refine q1 V c t h7 y _ ?_ ?_ <;> blk_simp [idx1 t]
    all_goals omega
  · have hN : t.val < 54 := t.isLt
    have h8 : t.val % 9 = 8 := by omega
    have ha : t.val / 9 = (t.val - 1) / 9 := by omega
    have hb : (t.val - 1) % 9 = 7 := by omega
    rw [outsAt1_B V c t (by omega) (by omega)]
    refine q1 V c ⟨t.val - 1, lt_of_le_of_lt (Nat.sub_le _ _) t.isLt⟩ (by show (t.val - 1) % 9 ≤ 7; omega) y _ ?_ ?_ <;> blk_simp [idx1 t]
    · exact congrArg (· * 1024 + (y 0 : ℕ)) ha
    · exact congrArg (· * 512 + (y 1 : ℕ)) ((by omega : min (t.val % 9) 7 = 7).trans hb.symm)

end Cert.KernelIdeal.Value
-- ==== Proof.GateUp.lean ====
/- The gated hidden layer and its running row maximum, read off their region: the two arrays it leaves. -/
module

public import proofs.«01_k».proof.Proof.Ideal.Region2
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- Column `j` of the part that begins at column `o`. -/
abbrev col (o : ℕ) (ho : o + 16384 ≤ 37376) (j : Fin 16384) : Fin 37376 := ⟨o + j.val, by omega⟩
/-- Column `l` of the group `k` of 128. -/
abbrev lane (k l : Fin 128) : Fin 16384 := ⟨k.val * 128 + l.val, by omega⟩

/-- The columns of the product of the codes with the weight from `o` on, scaled by row and by column. -/
def PROJ (o : ℕ) (ho : o + 16384 ≤ 37376) (xc : FVec Ideal S6144x4096 .fp8e4m3) (xs : FVec Ideal S6144x1 .f32)
    (w : FVec Ideal S4096x37376 .fp8e4m3) (ws : FVec Ideal S1x37376 .f32) : FVec Ideal S6144x16384 .f32 := fun i =>
  (∑ k : Fin 4096, xc (ix2 (i 0) k) * w (ix2 k (col o ho (i 1)))) * xs (ix2 (i 0) 0) * ws (ix2 0 (col o ho (i 1)))

/-- The gate times its logistic times the up projection. -/
def HID (xc : FVec Ideal S6144x4096 .fp8e4m3) (xs : FVec Ideal S6144x1 .f32)
    (w : FVec Ideal S4096x37376 .fp8e4m3) (ws : FVec Ideal S1x37376 .f32) : FVec Ideal S6144x16384 .f32 :=
  mulf (mulf (PROJ 4608 (by norm_num) xc xs w ws) (logistic (PROJ 4608 (by norm_num) xc xs w ws))) (PROJ 20992 (by norm_num) xc xs w ws)

/-- The largest magnitude of a row at the columns congruent to the lane modulo 128, at least 0. -/
def LANEMAX (h : FVec Ideal S6144x16384 .f32) : FVec Ideal S6144x128 .f32 := fun i =>
  Finset.univ.fold max 0 fun k : Fin 128 =>
    absf h (ix2 (i 0) (lane k (i 1)))

theorem idx2 : ∀ t : Fin cfg2.N, win2_0.index t = ![t.val / 32, 0] ∧ win2_1.index t = ![t.val / 32, 0]
    ∧ win2_2.index t = ![0, 9 + t.val % 32] ∧ win2_3.index t = ![0, 41 + t.val % 32]
    ∧ win2_4.index t = ![0, 9 + t.val % 32] ∧ win2_5.index t = ![0, 41 + t.val % 32]
    ∧ win2_6.index t = ![t.val / 32, t.val % 32] ∧ win2_7.index t = ![t.val / 32, 0] :=
  (by decide +kernel : ∀ t : Fin grid2.N, _)

theorem point2_6 (c : Dev nD) (t : Fin cfg2.N) (y) (i : S6144x16384.Idx)
    (h0 : (i 0 : ℕ) = t.val / 32 * 1024 + (y 0 : ℕ)) (h1 : (i 1 : ℕ) = t.val % 32 * 512 + (y 1 : ℕ)) :
    k2_pay2 (F := Ideal) (iblk2 V c 1 t) (iblk2 V c 0 t) (iblk2 V c 2 t) (iblk2 V c 4 t) (iblk2 V c 3 t) (iblk2 V c 5 t) y
      = HID (V c main_v20_0) (V c main_v20_1) (V c main_arg3) (V c main_v1) i := by
  pointwise [k2_pay2, HID, PROJ]
  blk_point [iblk2, idx2 t]

theorem arr2_6 (c : Dev nD) : (dat2 V c).arrAt 6 cfg2.N
    = HID (V c main_v20_0) (V c main_v20_1) (V c main_arg3) (V c main_v1) := by
  refine (dat2 V c).arrAt_eq_of_covers 6 _ (by decide +kernel) fun t _ y => ?_
  blk_simp
  rw [after2_6]
  by_cases h : t.val % 32 = 0
  · rw [outsAt2_A V c t h]; frame_out
    refine point2_6 V c t y _ ?_ ?_ <;> blk_simp [idx2 t]
  · rw [outsAt2_B V c t h]; frame_out
    refine point2_6 V c t y _ ?_ ?_ <;> blk_simp [idx2 t]

theorem hzero (y) : k2_pay4 (F := Ideal) y = 0 := by pointwise [k2_pay4]

theorem hpay (v a : FVec Ideal S1024x128 .f32) (y) : k2_pay1 (F := Ideal) v a y = max (a y) (v y) := by
  pointwise [k2_pay1]

/-- Column `l` of the group `q` of a block's four. -/
abbrev blane (q : Fin 4) (l : Fin 128) : Fin 512 := ⟨q.val * 128 + l.val, by omega⟩

theorem hpart (x0 x1 x2 x3 x4 x5) (y : S1024x128.Idx) (b : EReal) : k2_pay3 (F := Ideal) x0 x1 x2 x3 x4 x5 y ≤ b ↔
    ∀ q : Fin 4, absf (k2_pay2 (F := Ideal) x0 x1 x2 x3 x4 x5) (ix2 (y 0) (blane q (y 1))) ≤ b := by
  pointwise [k2_pay3]
  have e : ∀ (q : Fin 4) (l : Fin 128) (n : ℕ) (hn : n < 512), n = q.val * 128 + l.val → blane q l = ⟨n, hn⟩ :=
    fun q l n hn h => Fin.ext h.symm
  have hl : (y 1 : ℕ) < 128 := (y 1 : Fin 128).isLt
  rw [e 0 (y 1) (y 1) (by omega) (by simp), e 1 (y 1) (128 + (y 1).val) (by omega) (by simp),
    e 2 (y 1) (256 + (y 1).val) (by omega) (by simp), e 3 (y 1) (384 + (y 1).val) (by omega) (by simp)]
  simp only [max_le_iff, and_assoc]

/-- What the second output's block holds after point `n`, by its upper bounds. -/
theorem acc_le (c : Dev nD) (b : EReal) : ∀ (n : ℕ) (hn : n < cfg2.N) (y : S1024x128.Idx) (r : Fin 6144)
    (hr : r.val = n / 32 * 1024 + (y 0 : ℕ)),
    (outsAt2 V c n hn).2 y ≤ b ↔ 0 ≤ b ∧ ∀ k : Fin 128, k.val ≤ n % 32 * 4 + 3 →
      absf (HID (V c main_v20_0) (V c main_v20_1) (V c main_arg3) (V c main_v1)) (ix2 r (lane k (y 1))) ≤ b := by
  have part : ∀ (t : Fin cfg2.N) (y : S1024x128.Idx) (r : Fin 6144) (hr : r.val = t.val / 32 * 1024 + (y 0 : ℕ)),
      k2_pay3 (F := Ideal) (iblk2 V c 1 t) (iblk2 V c 0 t) (iblk2 V c 2 t) (iblk2 V c 4 t) (iblk2 V c 3 t) (iblk2 V c 5 t) y ≤ b ↔
        ∀ k : Fin 128, t.val % 32 * 4 ≤ k.val → k.val ≤ t.val % 32 * 4 + 3 →
          absf (HID (V c main_v20_0) (V c main_v20_1) (V c main_arg3) (V c main_v1)) (ix2 r (lane k (y 1))) ≤ b := by
    intro t y r hr
    rw [hpart]
    have key : ∀ (q : Fin 4) (k : Fin 128) (hk : k.val = t.val % 32 * 4 + q.val),
        absf (k2_pay2 (F := Ideal) (iblk2 V c 1 t) (iblk2 V c 0 t) (iblk2 V c 2 t) (iblk2 V c 4 t) (iblk2 V c 3 t) (iblk2 V c 5 t))
          (ix2 (y 0) (blane q (y 1)))
        = absf (HID (V c main_v20_0) (V c main_v20_1) (V c main_arg3) (V c main_v1)) (ix2 r (lane k (y 1))) := by
      intro q k hk
      have := point2_6 V c t (ix2 (y 0) (blane q (y 1))) (ix2 r (lane k (y 1))) hr
        (show k.val * 128 + (y 1 : ℕ) = t.val % 32 * 512 + (q.val * 128 + (y 1 : ℕ)) by omega)
      exact congrArg (FloatOps.absf (F := Ideal) (φ := .f32)) this
    constructor
    · intro h k h1 h2
      rw [← key ⟨k.val - t.val % 32 * 4, by omega⟩ k (by show _ = _ + (k.val - _); omega)]
      exact h _
    · intro h q
      rw [key q ⟨t.val % 32 * 4 + q.val, by omega⟩ rfl]
      exact h _ (by show _ ≤ _ + q.val; omega) (by show _ + q.val ≤ _; omega)
  intro n
  induction n with
  | zero =>
    intro hn y r hr
    have := part ⟨0, hn⟩ y r hr
    rw [show outsAt2 V c 0 hn = outsAt2 V c (⟨0, hn⟩ : Fin cfg2.N).val (⟨0, hn⟩ : Fin cfg2.N).isLt from rfl, outsAt2_A V c ⟨0, hn⟩ rfl]
    frame_out
    rw [hpay, hzero, max_le_iff, this]
    simp
  | succ n ih =>
    intro hn y r hr
    have := part ⟨n + 1, hn⟩ y r hr
    rw [show outsAt2 V c (n + 1) hn = outsAt2 V c (⟨n + 1, hn⟩ : Fin cfg2.N).val (⟨n + 1, hn⟩ : Fin cfg2.N).isLt from rfl]
    by_cases h : (n + 1) % 32 = 0
    · rw [outsAt2_A V c ⟨n + 1, hn⟩ h]
      frame_out
      rw [hpay, hzero, max_le_iff, this]
      simp [h]
    · rw [outsAt2_B V c ⟨n + 1, hn⟩ h]
      frame_out
      rw [hpay, max_le_iff, this]
      have ih' := ih (by omega) y r (by omega)
      refine (and_congr_left' ih').trans (and_assoc.trans ?_)
      refine and_congr_right fun _ => ?_
      have e : (n + 1) % 32 = n % 32 + 1 := by omega
      constructor
      · rintro ⟨h1, h2⟩ k hk
        by_cases hk' : k.val ≤ n % 32 * 4 + 3
        · exact h1 k hk'
        · exact h2 k (by show (n + 1) % 32 * 4 ≤ _; omega) hk
      · intro h1
        exact ⟨fun k hk => h1 k (by omega), fun k _ hk => h1 k hk⟩

theorem arr2_7 (c : Dev nD) : (dat2 V c).arrAt 7 cfg2.N
    = LANEMAX (HID (V c main_v20_0) (V c main_v20_1) (V c main_arg3) (V c main_v1)) := by
  refine (dat2 V c).arrAt_eq_of_covers 7 _ (by decide +kernel) fun t hf y => ?_
  have hf' := (flush2_7 t).mp hf
  blk_simp
  rw [after2_7]
  refine eq_of_forall_ge_iff (α := EReal) fun b => ?_
  rw [acc_le V c b t.val t.isLt y ((((cfg2.win 7).blk t).view.emb y) 0) (by blk_simp [idx2 t])]
  unfold LANEMAX
  rw [Finset.fold_max_le]
  refine and_congr_right fun _ => ?_
  have e : (((cfg2.win 7).blk t).view.emb y) 1 = y 1 := Fin.ext (by blk_simp [idx2 t])
  rw [e]
  exact ⟨fun h k _ => h k (by omega), fun h k _ => h k (Finset.mem_univ _)⟩

end Cert.KernelIdeal.Value
-- ==== Proof.Down.lean ====
/- The down projection and residual, read off its region: the array it leaves, index by index. -/
module

public import proofs.«01_k».proof.Proof.Ideal.Region4
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- The residual plus the product of the codes with the weight, scaled by row and by column. -/
def DOWN (hc : FVec Ideal S6144x16384 .fp8e4m3) (hs : FVec Ideal S6144x1 .f32) (w : FVec Ideal S16384x4096 .fp8e4m3)
    (ws : FVec Ideal S1x4096 .f32) (x : FVec Ideal S6144x4096 .bf16) : FVec Ideal S6144x4096 .bf16 := fun i =>
  x (ix2 (i 0) (i 1)) + (∑ k : Fin 16384, hc (ix2 (i 0) k) * w (ix2 k (i 1))) * hs (ix2 (i 0) 0) * ws (ix2 0 (i 1))

theorem idx4 : ∀ t : Fin cfg4.N, win4_0.index t = ![(grid4.coords t 0).val, 0] ∧ win4_1.index t = ![(grid4.coords t 0).val, 0]
    ∧ win4_2.index t = ![0, (grid4.coords t 1).val] ∧ win4_3.index t = ![0, (grid4.coords t 1).val]
    ∧ win4_4.index t = ![(grid4.coords t 0).val, (grid4.coords t 1).val]
    ∧ win4_5.index t = ![(grid4.coords t 0).val, (grid4.coords t 1).val] :=
  (by decide +kernel : ∀ t : Fin grid4.N, _)

theorem point4 (c : Dev nD) (t : Fin cfg4.N) (y) :
    k4_pay1 (F := Ideal) (iblk4 V c 0 t) (iblk4 V c 2 t) (iblk4 V c 1 t) (iblk4 V c 3 t) (iblk4 V c 4 t) y
      = DOWN (V c main_v23_0) (V c main_v23_1) (V c main_arg5) (V c main_v2) (V c main_v0) (((cfg4.win 5).blk t).view.emb y) := by
  pointwise [k4_pay1, DOWN]
  blk_point [iblk4, idx4 t]

theorem arr4 (c : Dev nD) : (dat4 V c).arrAt 5 cfg4.N
    = DOWN (V c main_v23_0) (V c main_v23_1) (V c main_arg5) (V c main_v2) (V c main_v0) := by
  refine (dat4 V c).arrAt_eq_of_covers 5 _ (by decide +kernel) fun t _ y => ?_
  blk_simp
  rw [after4_5]; frame_out
  exact point4 V c t y

end Cert.KernelIdeal.Value
-- ==== Proof.Run.lean ====
/- The whole program's run: what each result array holds, over the arguments. -/
module

public import proofs.«01_k».proof.Proof.Ideal.Frame
public import Idealize.ShloMosaic.Lib.Pipeline.ValueKit
public import proofs.«01_k».proof.Proof.Quant
public import proofs.«01_k».proof.Proof.Qkv
public import proofs.«01_k».proof.Proof.GateUp
public import proofs.«01_k».proof.Proof.Down
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.Value
open Cert.KernelIdeal Cert.KernelIdeal.Gen

section
variable {F : FTy → Type} [FloatOps F]
variable (m : (ℓ : Loc nD τ sig) → Buf (Elt F) ℓ) (ρ : Dev nD → PrngReg)

set_option backward.isDefEq.respectTransparency.types false in
/-- From any memory the program runs to the end, the ten results at the last boundary's contents and the arguments as they were. -/
theorem run_values : θ_run defs (onTc (τ := τ) (main (F := F))) ⟨m, fun _ => 0, ρ⟩ (fun r => ∀ c : Dev nD,
      r.2.mem ((c.tc : Thread nD τ).loc main_v21_0) = W6 m ρ c (Proc.devRef .tc main_v21_0)
      ∧ r.2.mem ((c.tc : Thread nD τ).loc main_v24) = W6 m ρ c (Proc.devRef .tc main_v24)
      ∧ r.2.mem ((c.tc : Thread nD τ).loc main_v20_0) = W6 m ρ c (Proc.devRef .tc main_v20_0)
      ∧ r.2.mem ((c.tc : Thread nD τ).loc main_v20_1) = W6 m ρ c (Proc.devRef .tc main_v20_1)
      ∧ r.2.mem ((c.tc : Thread nD τ).loc main_v21_1) = W6 m ρ c (Proc.devRef .tc main_v21_1)
      ∧ r.2.mem ((c.tc : Thread nD τ).loc main_v21_2) = W6 m ρ c (Proc.devRef .tc main_v21_2)
      ∧ r.2.mem ((c.tc : Thread nD τ).loc main_v21_3) = W6 m ρ c (Proc.devRef .tc main_v21_3)
      ∧ r.2.mem ((c.tc : Thread nD τ).loc main_v21_4) = W6 m ρ c (Proc.devRef .tc main_v21_4)
      ∧ r.2.mem ((c.tc : Thread nD τ).loc main_v23_0) = W6 m ρ c (Proc.devRef .tc main_v23_0)
      ∧ r.2.mem ((c.tc : Thread nD τ).loc main_v23_1) = W6 m ρ c (Proc.devRef .tc main_v23_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v21_0 (by decide)),
       h c _ (mem_uc main_v24 (by decide)),
       h c _ (mem_uc main_v20_0 (by decide)),
       h c _ (mem_uc main_v20_1 (by decide)),
       h c _ (mem_uc main_v21_1 (by decide)),
       h c _ (mem_uc main_v21_2 (by decide)),
       h c _ (mem_uc main_v21_3 (by decide)),
       h c _ (mem_uc main_v21_4 (by decide)),
       h c _ (mem_uc main_v23_0 (by decide)),
       h c _ (mem_uc main_v23_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)
end

variable (m : (ℓ : Loc nD τ sig) → Buf (Elt Ideal) ℓ) (ρ : Dev nD → PrngReg) (c : Dev nD)

/-! ## The operands at the first region's entry -/

/-- The rows. -/
abbrev X : FVec Ideal S6144x4096 .bf16 := shapeCast S6144x4096 (m ((c : Thread nD τ).loc main_arg0)) shapeCasts_S3x2048x4096_S6144x4096
/-- The weight of the normalisation, a row. -/
abbrev GM : FVec Ideal S1x4096 .f32 := shapeCast S1x4096 (m ((c : Thread nD τ).loc main_arg2)) shapeCasts_S4096_S1x4096
/-- The column scales of the first weight. -/
abbrev WS : FVec Ideal S1x37376 .f32 := shapeCast S1x37376 (m ((c : Thread nD τ).loc main_arg4)) shapeCasts_S37376_S1x37376
/-- The column scales of the second weight. -/
abbrev WDS : FVec Ideal S1x4096 .f32 := shapeCast S1x4096 (m ((c : Thread nD τ).loc main_arg6)) shapeCasts_S4096_S1x4096
/-- The first weight. -/
abbrev WI : FVec Ideal S4096x37376 .fp8e4m3 := m ((c : Thread nD τ).loc main_arg3)
/-- The second weight. -/
abbrev WD : FVec Ideal S16384x4096 .fp8e4m3 := m ((c : Thread nD τ).loc main_arg5)

/-- The angles: each position times each frequency. -/
def ANG (p : IVec S3x2048 32) : FVec Ideal S6144x128 .f32 :=
  mulf (broadcastInDim S6144x128 ![0, 1] bcast_S6144x1_S6144x128_0_1
      (sitofp (F := Ideal) .f32 (shapeCast S6144x1 p shapeCasts_S3x2048_S6144x1)))
    (broadcastInDim S6144x128 ![0, 1] bcast_S1x128_S6144x128_0_1 (broadcastInDim S1x128 ![1] bcast_S128_S1x128_1
      (Host.powf (broadcastInDim S128 ![] bcast_S_S128 (constant (F := Ideal) S_ .f32 0x48F42400#32))
        (Host.negf (Host.divf (mulf (sitofp (F := Ideal) .f32 (iotaInDim S128 32 0)) (broadcastInDim S128 ![] bcast_S_S128 (constant (F := Ideal) S_ .f32 0x40000000#32)))
          (broadcastInDim S128 ![] bcast_S_S128 (constant (F := Ideal) S_ .f32 0x43800000#32)))))))
/-- The cosines of the angles. -/
abbrev CO : FVec Ideal S6144x128 .f32 := Host.cos (ANG (m ((c : Thread nD τ).loc main_arg1)))
/-- The sines of the angles. -/
abbrev SI : FVec Ideal S6144x128 .f32 := Host.sin (ANG (m ((c : Thread nD τ).loc main_arg1)))

theorem W1_v0 : W1 m ρ c (Proc.devRef .tc main_v0) = X m c := by
  simp only [StableHlo.after_cons, StableHlo.after_nil]; after_results_simp; rfl
theorem W1_v1 : W1 m ρ c (Proc.devRef .tc main_v1) = WS m c := by
  simp only [StableHlo.after_cons, StableHlo.after_nil]; after_results_simp; rfl
theorem W1_v2 : W1 m ρ c (Proc.devRef .tc main_v2) = WDS m c := by
  simp only [StableHlo.after_cons, StableHlo.after_nil]; after_results_simp; rfl
theorem W1_v17 : W1 m ρ c (Proc.devRef .tc main_v17) = CO m c := by
  simp only [StableHlo.after_cons, StableHlo.after_nil]; after_results_simp; rfl
theorem W1_v18 : W1 m ρ c (Proc.devRef .tc main_v18) = SI m c := by
  simp only [StableHlo.after_cons, StableHlo.after_nil]; after_results_simp; rfl
theorem W1_v19 : W1 m ρ c (Proc.devRef .tc main_v19) = GM m c := by
  simp only [StableHlo.after_cons, StableHlo.after_nil]; after_results_simp; rfl

/-! ## The ten results -/

/-- The normalised rows. -/
def xn : FVec Ideal S6144x4096 .f32 := XN (X m c) (GM m c)
/-- The hidden layer. -/
def hid : FVec Ideal S6144x16384 .f32 := HID (XCODES (xn m c)) (XSCALE (xn m c)) (WI m c) (WS m c)
/-- The query. -/
def qq : FVec Ideal S6144x4096 .bf16 := QROT (XCODES (xn m c)) (XSCALE (xn m c)) (WI m c) (WS m c) (CO m c) (SI m c)
/-- The key. -/
def kk : FVec Ideal S6144x256 .f32 := KROT (XCODES (xn m c)) (XSCALE (xn m c)) (WI m c) (WS m c) (CO m c) (SI m c)
/-- The value. -/
def vv : FVec Ideal S6144x256 .f32 := VPART (XCODES (xn m c)) (XSCALE (xn m c)) (WI m c) (WS m c)

theorem W2_v20_0 : W2 m ρ c (Proc.devRef .tc main_v20_0) = XCODES (xn m c) := by
  refine (W2_arr m ρ c 2).trans ((arr0_2 (V1 m ρ) c).trans ?_)
  unfold xn; rw [← W1_v0 m ρ c, ← W1_v19 m ρ c]
theorem W2_v20_1 : W2 m ρ c (Proc.devRef .tc main_v20_1) = XSCALE (xn m c) := by
  refine (W2_arr m ρ c 3).trans ((arr0_3 (V1 m ρ) c).trans ?_)
  unfold xn; rw [← W1_v0 m ρ c, ← W1_v19 m ρ c]
theorem W2_arg3 : W2 m ρ c (Proc.devRef .tc main_arg3) = WI m c := W2_args m ρ c main_arg3 (by decide)
theorem W2_v1 : W2 m ρ c (Proc.devRef .tc main_v1) = WS m c := (W2_of m ρ c main_v1 (by decide)).trans (W1_v1 m ρ c)
theorem W2_v17 : W2 m ρ c (Proc.devRef .tc main_v17) = CO m c := (W2_of m ρ c main_v17 (by decide)).trans (W1_v17 m ρ c)
theorem W2_v18 : W2 m ρ c (Proc.devRef .tc main_v18) = SI m c := (W2_of m ρ c main_v18 (by decide)).trans (W1_v18 m ρ c)

theorem query_eq : QROT (W2 m ρ c (Proc.devRef .tc main_v20_0)) (W2 m ρ c (Proc.devRef .tc main_v20_1)) (W2 m ρ c (Proc.devRef .tc main_arg3))
    (W2 m ρ c (Proc.devRef .tc main_v1)) (W2 m ρ c (Proc.devRef .tc main_v17)) (W2 m ρ c (Proc.devRef .tc main_v18)) = qq m c := by
  rw [W2_v20_0, W2_v20_1, W2_arg3, W2_v1, W2_v17, W2_v18]; rfl
theorem key_eq : KV (V2 m ρ) c = kk m c := by
  show KROT (W2 m ρ c (Proc.devRef .tc main_v20_0)) (W2 m ρ c (Proc.devRef .tc main_v20_1)) (W2 m ρ c (Proc.devRef .tc main_arg3))
    (W2 m ρ c (Proc.devRef .tc main_v1)) (W2 m ρ c (Proc.devRef .tc main_v17)) (W2 m ρ c (Proc.devRef .tc main_v18)) = kk m c
  rw [W2_v20_0, W2_v20_1, W2_arg3, W2_v1, W2_v17, W2_v18]; rfl
theorem value_eq : VV (V2 m ρ) c = vv m c := by
  show VPART (W2 m ρ c (Proc.devRef .tc main_v20_0)) (W2 m ρ c (Proc.devRef .tc main_v20_1)) (W2 m ρ c (Proc.devRef .tc main_arg3))
    (W2 m ρ c (Proc.devRef .tc main_v1)) = vv m c
  rw [W2_v20_0, W2_v20_1, W2_arg3, W2_v1]; rfl

theorem W3_v21_0 : W3 m ρ c (Proc.devRef .tc main_v21_0) = qq m c :=
  (W3_arr m ρ c 6).trans ((arr1_6 (V2 m ρ) c).trans (query_eq m ρ c))
theorem W3_v21_1 : W3 m ρ c (Proc.devRef .tc main_v21_1) = KCODES (kk m c) :=
  (W3_arr m ρ c 7).trans ((arr1_7 (V2 m ρ) c).trans (congrArg KCODES (key_eq m ρ c)))
theorem W3_v21_2 : W3 m ρ c (Proc.devRef .tc main_v21_2) = KSCALE (kk m c) :=
  (W3_arr m ρ c 8).trans ((arr1_8 (V2 m ρ) c).trans (congrArg KSCALE (key_eq m ρ c)))
theorem W3_v21_3 : W3 m ρ c (Proc.devRef .tc main_v21_3) = KCODES (vv m c) :=
  (W3_arr m ρ c 9).trans ((arr1_9 (V2 m ρ) c).trans (congrArg KCODES (value_eq m ρ c)))
theorem W3_v21_4 : W3 m ρ c (Proc.devRef .tc main_v21_4) = KSCALE (vv m c) :=
  (W3_arr m ρ c 10).trans ((arr1_10 (V2 m ρ) c).trans (congrArg KSCALE (value_eq m ρ c)))

theorem W3_v20_0 : W3 m ρ c (Proc.devRef .tc main_v20_0) = XCODES (xn m c) := (W3_of m ρ c main_v20_0 (by decide)).trans (W2_v20_0 m ρ c)
theorem W3_v20_1 : W3 m ρ c (Proc.devRef .tc main_v20_1) = XSCALE (xn m c) := (W3_of m ρ c main_v20_1 (by decide)).trans (W2_v20_1 m ρ c)
theorem W3_arg3 : W3 m ρ c (Proc.devRef .tc main_arg3) = WI m c := W3_args m ρ c main_arg3 (by decide)
theorem W3_v1 : W3 m ρ c (Proc.devRef .tc main_v1) = WS m c := (W3_of m ρ c main_v1 (by decide)).trans (W2_v1 m ρ c)

theorem hid_eq : HID (W3 m ρ c (Proc.devRef .tc main_v20_0)) (W3 m ρ c (Proc.devRef .tc main_v20_1)) (W3 m ρ c (Proc.devRef .tc main_arg3))
    (W3 m ρ c (Proc.devRef .tc main_v1)) = hid m c := by
  rw [W3_v20_0, W3_v20_1, W3_arg3, W3_v1]; rfl
theorem W4_v22_0 : W4 m ρ c (Proc.devRef .tc main_v22_0) = hid m c :=
  (W4_arr m ρ c 6).trans ((arr2_6 (V3 m ρ) c).trans (hid_eq m ρ c))
theorem W4_v22_1 : W4 m ρ c (Proc.devRef .tc main_v22_1) = LANEMAX (hid m c) :=
  (W4_arr m ρ c 7).trans ((arr2_7 (V3 m ρ) c).trans (congrArg LANEMAX (hid_eq m ρ c)))
theorem W5_v23_0 : W5 m ρ c (Proc.devRef .tc main_v23_0) = HCODES (hid m c) (LANEMAX (hid m c)) :=
  (W5_arr m ρ c 2).trans ((arr3_2 (V4 m ρ) c).trans (congr_arg₂ HCODES (W4_v22_0 m ρ c) (W4_v22_1 m ρ c)))
theorem W5_v23_1 : W5 m ρ c (Proc.devRef .tc main_v23_1) = HSCALE (LANEMAX (hid m c)) :=
  (W5_arr m ρ c 3).trans ((arr3_3 (V4 m ρ) c).trans (congrArg HSCALE (W4_v22_1 m ρ c)))

theorem out_q : W6 m ρ c (Proc.devRef .tc main_v21_0) = qq m c :=
  (W6_of m ρ c main_v21_0 (by decide)).trans ((W5_of m ρ c main_v21_0 (by decide)).trans ((W4_of m ρ c main_v21_0 (by decide)).trans (W3_v21_0 m ρ c)))
theorem out_kc : W6 m ρ c (Proc.devRef .tc main_v21_1) = KCODES (kk m c) :=
  (W6_of m ρ c main_v21_1 (by decide)).trans ((W5_of m ρ c main_v21_1 (by decide)).trans ((W4_of m ρ c main_v21_1 (by decide)).trans (W3_v21_1 m ρ c)))
theorem out_ks : W6 m ρ c (Proc.devRef .tc main_v21_2) = KSCALE (kk m c) :=
  (W6_of m ρ c main_v21_2 (by decide)).trans ((W5_of m ρ c main_v21_2 (by decide)).trans ((W4_of m ρ c main_v21_2 (by decide)).trans (W3_v21_2 m ρ c)))
theorem out_vc : W6 m ρ c (Proc.devRef .tc main_v21_3) = KCODES (vv m c) :=
  (W6_of m ρ c main_v21_3 (by decide)).trans ((W5_of m ρ c main_v21_3 (by decide)).trans ((W4_of m ρ c main_v21_3 (by decide)).trans (W3_v21_3 m ρ c)))
theorem out_vs : W6 m ρ c (Proc.devRef .tc main_v21_4) = KSCALE (vv m c) :=
  (W6_of m ρ c main_v21_4 (by decide)).trans ((W5_of m ρ c main_v21_4 (by decide)).trans ((W4_of m ρ c main_v21_4 (by decide)).trans (W3_v21_4 m ρ c)))
theorem out_xc : W6 m ρ c (Proc.devRef .tc main_v20_0) = XCODES (xn m c) :=
  (W6_of m ρ c main_v20_0 (by decide)).trans ((W5_of m ρ c main_v20_0 (by decide)).trans ((W4_of m ρ c main_v20_0 (by decide)).trans (W3_v20_0 m ρ c)))
theorem out_xs : W6 m ρ c (Proc.devRef .tc main_v20_1) = XSCALE (xn m c) :=
  (W6_of m ρ c main_v20_1 (by decide)).trans ((W5_of m ρ c main_v20_1 (by decide)).trans ((W4_of m ρ c main_v20_1 (by decide)).trans (W3_v20_1 m ρ c)))
theorem out_hc : W6 m ρ c (Proc.devRef .tc main_v23_0) = HCODES (hid m c) (LANEMAX (hid m c)) :=
  (W6_of m ρ c main_v23_0 (by decide)).trans (W5_v23_0 m ρ c)
theorem out_hs : W6 m ρ c (Proc.devRef .tc main_v23_1) = HSCALE (LANEMAX (hid m c)) :=
  (W6_of m ρ c main_v23_1 (by decide)).trans (W5_v23_1 m ρ c)
theorem W5_v0 : W5 m ρ c (Proc.devRef .tc main_v0) = X m c :=
  (W5_of m ρ c main_v0 (by decide)).trans ((W4_of m ρ c main_v0 (by decide)).trans ((W3_of m ρ c main_v0 (by decide)).trans ((W2_of m ρ c main_v0 (by decide)).trans (W1_v0 m ρ c))))
theorem W5_v2 : W5 m ρ c (Proc.devRef .tc main_v2) = WDS m c :=
  (W5_of m ρ c main_v2 (by decide)).trans ((W4_of m ρ c main_v2 (by decide)).trans ((W3_of m ρ c main_v2 (by decide)).trans ((W2_of m ρ c main_v2 (by decide)).trans (W1_v2 m ρ c))))
theorem W5_arg5 : W5 m ρ c (Proc.devRef .tc main_arg5) = WD m c := W5_args m ρ c main_arg5 (by decide)
theorem out_y : W6 m ρ c (Proc.devRef .tc main_v24)
    = DOWN (HCODES (hid m c) (LANEMAX (hid m c))) (HSCALE (LANEMAX (hid m c))) (WD m c) (WDS m c) (X m c) := by
  refine (W6_arr m ρ c 5).trans ((arr4 (V5 m ρ) c).trans ?_)
  rw [← W5_v23_0 m ρ c, ← W5_v23_1 m ρ c, ← W5_arg5 m ρ c, ← W5_v2 m ρ c, ← W5_v0 m ρ c]

end Cert.KernelIdeal.Value
-- ==== Proof.Ref.lean ====
/- The reference, read off its one call: each result as a function of its operands. -/
module

public import proofs.«01_k».proof.Proof.Quant
public import proofs.«01_k».proof.Proof.GateUp
public import proofs.«01_k».proof.Proof.Down
public import proofs.«01_k».proof.Proof.Qkv
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.ReferenceIdeal.Results
open Cert.ReferenceIdeal Cert.ReferenceIdeal.Gen
open Cert.Scale
open Cert.KernelIdeal.Value (XN HID PROJ DOWN ROWMAX0 ROWMAXK ZAT VPART KROT QROT rot clip col)

/-- The scale of a row from its largest magnitude over 448, as the reference computes it from the table of powers. -/
def TAIL (p : FVec Ideal S1x246 .f32) (b : FVec Ideal S6144x1 .f32) : FVec Ideal S6144x1 .f32 :=
  select (ori (cmpf .olt b (broadcast S6144x1 (Scalar.ofBits .f32 0x00800000#32)))
      (cmpf .oeq b (broadcast S6144x1 (Scalar.ofBits .f32 0x7F800000#32))))
    (broadcast S6144x1 (Scalar.ofBits .f32 0x3F800000#32))
    (shapeCast S6144x1 (multiReduction .minimumf [1] S6144
      (select (cmpf .olt (broadcastTo S6144x246 b broadcasts_S6144x1_S6144x246)
          (broadcastTo S6144x246 p broadcasts_S1x246_S6144x246))
        (broadcastTo S6144x246 (shapeCast S1x246 p shapeCasts_S1x246_S1x246) broadcasts_S1x246_S6144x246)
        (broadcast S6144x246 (Scalar.ofBits .f32 0x7B800000#32)))
      0x7F800000#32 reduces_S6144x246_S6144 (.inl rfl) rfl) shapeCasts_S6144_S6144x1)

/-- A row's largest magnitude over 448, for rows of 4096. -/
def AMAX4096 (v : FVec Ideal S6144x4096 .f32) : FVec Ideal S6144x1 .f32 :=
  mulf (shapeCast S6144x1 (multiReduction .maximumf [1] S6144 (absf v) 0xFF800000#32 reduces_S6144x4096_S6144 (.inl rfl) rfl)
    shapeCasts_S6144_S6144x1) (broadcast S6144x1 (Scalar.ofBits .f32 0x3B124925#32))

/-- A row's largest magnitude over 448, for rows of 16384. -/
def AMAX16384 (v : FVec Ideal S6144x16384 .f32) : FVec Ideal S6144x1 .f32 :=
  mulf (shapeCast S6144x1 (multiReduction .maximumf [1] S6144 (absf v) 0xFF800000#32 reduces_S6144x16384_S6144 (.inl rfl) rfl)
    shapeCasts_S6144_S6144x1) (broadcast S6144x1 (Scalar.ofBits .f32 0x3B124925#32))

/-- The largest value of a row of a two-axis array. -/
theorem rowmax {n m : ℕ} (v : FVec Ideal ⟨2, ![n, m]⟩ .f32) (h : Shape.Reduces ⟨2, ![n, m]⟩ [1] ⟨1, ![n]⟩) (r : Shape.Idx ⟨1, ![n]⟩) :
    multiReduction .maximumf [1] ⟨1, ![n]⟩ v 0xFF800000#32 h (.inl rfl) rfl r
      = (Finset.univ : Finset (Fin m)).fold (max : EReal → EReal → EReal) (Ideal.ofBits .f32 0xFF800000#32) (fun k => v (ix2 (r 0) k)) := by
  refine (Ideal.multiReduction_maximumf_single (s := ⟨2, ![n, m]⟩) (t := ⟨1, ![n]⟩) (a := (1 : Fin 2)) v 0xFF800000#32 h (.inl rfl) rfl r).trans ?_
  have e : (v ∘ h.lift r) = fun k : Fin m => v (ix2 (r 0) k) := by
    refine funext fun k => congrArg v ?_
    refine funext fun a => ?_
    fin_cases a <;> rfl
  exact congrArg (fun f => Finset.fold (max : EReal → EReal → EReal) (Ideal.ofBits .f32 0xFF800000#32) f Finset.univ) e

theorem colscale (m : FVec Ideal S6144 .f32) (j : S6144x1.Idx) :
    mulf (F := Ideal) (shapeCast S6144x1 m shapeCasts_S6144_S6144x1) (broadcast S6144x1 (Scalar.ofBits .f32 0x3B124925#32)) j
      = m (ix1 (j 0)) * Ideal.ofBits .f32 0x3B124925#32 := by
  pointwise

theorem pay1 (p : FVec Ideal S1x246 .f32) : k0_pay1 (F := Ideal) p = p := by
  funext j; pointwise [k0_pay1]
theorem pay2 (p : FVec Ideal S6144x128 .f32) : k0_pay2 (F := Ideal) p = p := by
  funext j; pointwise [k0_pay2]
theorem pay3 (p : FVec Ideal S6144x128 .f32) : k0_pay3 (F := Ideal) p = p := by
  funext j; pointwise [k0_pay3]

theorem pay4 (p : FVec Ideal S6144x4096 .bf16) (j) : k0_pay4 (F := Ideal) p j = p j := by
  pointwise [k0_pay4]

/-- A row's largest magnitude over 448, for rows of 256. -/
def AMAX256 (v : FVec Ideal S6144x256 .f32) : FVec Ideal S6144x1 .f32 :=
  mulf (shapeCast S6144x1 (multiReduction .maximumf [1] S6144 (absf v) 0xFF800000#32 reduces_S6144x256_S6144 (.inl rfl) rfl)
    shapeCasts_S6144_S6144x1) (broadcast S6144x1 (Scalar.ofBits .f32 0x3B124925#32))

theorem pay10_eq (p : FVec Ideal S1x246 .f32) (x : FVec Ideal S6144x4096 .bf16) (g : FVec Ideal S1x4096 .f32) :
    k0_pay10 (F := Ideal) (k0_pay7 (F := Ideal) p x g) (k0_pay8 (F := Ideal) x g) (k0_pay9 (F := Ideal) x g)
      = TAIL (k0_pay1 (F := Ideal) p) (AMAX4096 (k0_pay5 (F := Ideal) x g)) := rfl

theorem pay19_eq (p : FVec Ideal S1x246 .f32) (v : FVec Ideal S6144x256 .f32) :
    k0_pay19 (F := Ideal) p (absf v) = TAIL p (AMAX256 v) := rfl

theorem pay24_eq (p : FVec Ideal S1x246 .f32) (v : FVec Ideal S6144x256 .f32) :
    k0_pay24 (F := Ideal) (k0_pay21 (F := Ideal) v) (k0_pay22 (F := Ideal) p v) (k0_pay23 (F := Ideal) v) = TAIL p (AMAX256 v) := rfl

theorem pay27_eq (p : FVec Ideal S1x246 .f32) (a b : FVec Ideal S6144x16384 .f32) :
    k0_pay27 (F := Ideal) p a b = TAIL p (AMAX16384 (k0_pay26 (F := Ideal) a b)) := rfl

theorem amax4096 (v : FVec Ideal S6144x4096 .f32) (j) : AMAX4096 v j = ROWMAX0 v (j 0) :=
  (colscale _ j).trans (congrArg (· * Ideal.ofBits .f32 0x3B124925#32) (rowmax (absf v) reduces_S6144x4096_S6144 (ix1 (j 0))))

/-- The largest magnitude of a row of 16384 values, over 448. -/
def HMAX (v : FVec Ideal S6144x16384 .f32) (r : Fin 6144) : EReal :=
  (Finset.univ.fold max (Ideal.ofBits .f32 0xFF800000#32) fun k : Fin 16384 => absf v (ix2 r k)) * Ideal.ofBits .f32 0x3B124925#32

theorem amax16384 (v : FVec Ideal S6144x16384 .f32) (j) : AMAX16384 v j = HMAX v (j 0) :=
  (colscale _ j).trans (congrArg (· * Ideal.ofBits .f32 0x3B124925#32) (rowmax (absf v) reduces_S6144x16384_S6144 (ix1 (j 0))))

theorem amax256 (v : FVec Ideal S6144x256 .f32) (j) : AMAX256 v j = ROWMAXK v (j 0) :=
  (colscale _ j).trans (congrArg (· * Ideal.ofBits .f32 0x3B124925#32) (rowmax (absf v) reduces_S6144x256_S6144 (ix1 (j 0))))

theorem sel_or (P Q : Prop) [Decidable P] [Decidable Q] (x y : EReal) :
    Scalar.select (IntOp.ori (BitVec.ofBool (decide P)) (BitVec.ofBool (decide Q))) x y = if P ∨ Q then x else y := by
  by_cases h1 : P <;> by_cases h2 : Q <;> simp [h1, h2, Scalar.select, IntOp.ori]

theorem tail_apply (p : FVec Ideal S1x246 .f32) (b : FVec Ideal S6144x1 .f32) (j) :
    TAIL p b j = rscale (fun k => p (ix2 0 k)) (b j) := by
  have hj : ix2 (j 0) 0 = j := by
    refine funext fun a => ?_
    fin_cases a
    · rfl
    · exact Subsingleton.elim (α := Fin 1) _ _
  pointwise [TAIL]
  simp only [rscale]
  have hf : (Finset.fold min (Ideal.ofBits FTy.f32 2139095040#32)
      (fun x : Fin 246 => if b (ix2 (j 0) 0) < p (ix2 0 x) then p (ix2 0 x) else Ideal.ofBits FTy.f32 2071986176#32) Finset.univ)
    = Finset.fold min (Ideal.ofBits FTy.f32 2139095040#32)
      (fun x => if b j < p (ix2 0 x) then p (ix2 0 x) else Ideal.ofBits FTy.f32 2071986176#32) Finset.univ :=
    congrArg (fun e => Finset.fold min (Ideal.ofBits FTy.f32 2139095040#32)
      (fun x : Fin 246 => if e < p (ix2 0 x) then p (ix2 0 x) else Ideal.ofBits FTy.f32 2071986176#32) Finset.univ) (congrArg b hj)
  simp only [hf]
  exact sel_or _ _ _ _
theorem pay5 (x : FVec Ideal S6144x4096 .bf16) (g : FVec Ideal S1x4096 .f32) (j) : k0_pay5 (F := Ideal) x g j = XN x g j := by
  pointwise [k0_pay5, XN]
  simp only [pay4]

/-! ## The codes -/

/-- Rows of 256 over their scales, clipped to the range of the codes. -/
def CODE256 (v : FVec Ideal S6144x256 .f32) (s : FVec Ideal S6144x1 .f32) : FVec Ideal S6144x256 .fp8e4m3 :=
  truncf .fp8e4m3 (minimumf (broadcast S6144x256 (Scalar.ofBits .f32 0x43E00000#32)) (maximumf (broadcast S6144x256 (Scalar.ofBits .f32 0xC3E00000#32))
    (mulf v (broadcastTo S6144x256 (divf (broadcast S6144x1 (Scalar.ofBits .f32 0x3F800000#32)) s) broadcasts_S6144x1_S6144x256)))) bitsLt_fp8e4m3_f32
theorem code256 (v : FVec Ideal S6144x256 .f32) (s : FVec Ideal S6144x1 .f32) (j) :
    CODE256 v s j = clip (v j * Ideal.div 1 (s (ix2 (j 0) 0))) := by
  pointwise [CODE256, clip]

/-- Rows of 4096 over their scales, clipped to the range of the codes. -/
def CODE4096 (v : FVec Ideal S6144x4096 .f32) (s : FVec Ideal S6144x1 .f32) : FVec Ideal S6144x4096 .fp8e4m3 :=
  truncf .fp8e4m3 (minimumf (broadcast S6144x4096 (Scalar.ofBits .f32 0x43E00000#32)) (maximumf (broadcast S6144x4096 (Scalar.ofBits .f32 0xC3E00000#32))
    (mulf v (broadcastTo S6144x4096 (divf (broadcast S6144x1 (Scalar.ofBits .f32 0x3F800000#32)) s) broadcasts_S6144x1_S6144x4096)))) bitsLt_fp8e4m3_f32
theorem code4096 (v : FVec Ideal S6144x4096 .f32) (s : FVec Ideal S6144x1 .f32) (j) :
    CODE4096 v s j = clip (v j * Ideal.div 1 (s (ix2 (j 0) 0))) := by
  pointwise [CODE4096, clip]

/-- Rows of 16384 over their scales, clipped to the range of the codes. -/
def CODE16384 (v : FVec Ideal S6144x16384 .f32) (s : FVec Ideal S6144x1 .f32) : FVec Ideal S6144x16384 .fp8e4m3 :=
  truncf .fp8e4m3 (minimumf (broadcast S6144x16384 (Scalar.ofBits .f32 0x43E00000#32)) (maximumf (broadcast S6144x16384 (Scalar.ofBits .f32 0xC3E00000#32))
    (mulf v (broadcastTo S6144x16384 (divf (broadcast S6144x1 (Scalar.ofBits .f32 0x3F800000#32)) s) broadcasts_S6144x1_S6144x16384)))) bitsLt_fp8e4m3_f32
theorem code16384 (v : FVec Ideal S6144x16384 .f32) (s : FVec Ideal S6144x1 .f32) (j) :
    CODE16384 v s j = clip (v j * Ideal.div 1 (s (ix2 (j 0) 0))) := by
  pointwise [CODE16384, clip]

/-! ## The products -/

section
variable (v22 : FVec Ideal S6144x4096 .f32) (v36 : FVec Ideal S6144x1 .f32) (v38 v40 : IVec S6144x1 1)
  (w : FVec Ideal S4096x37376 .fp8e4m3) (ws : FVec Ideal S1x37376 .f32)

theorem pay11 : k0_pay11 (F := Ideal) v22 v36 v38 v40 = CODE4096 v22 (k0_pay10 (F := Ideal) v36 v38 v40) := rfl

theorem pay12 (j) : k0_pay12 (F := Ideal) v22 v36 v38 v40 w ws j
    = ZAT (k0_pay11 (F := Ideal) v22 v36 v38 v40) (k0_pay10 (F := Ideal) v36 v38 v40) w ws (j 0) (j 1) := by
  pointwise [k0_pay12, ZAT]

end

/-! ## The parts of the projection -/

theorem slice_v (z : FVec Ideal S6144x37376 .f32) (j : S6144x256.Idx) (n : Fin 37376) (hn : n.val = 4352 + (j 1 : ℕ)) :
    extractStridedSlice S6144x256 ![0, 4352] z slices_S6144x37376_o0_4352_S6144x256 j = z (ix2 (j 0) n) := by
  have hl : (j 1 : ℕ) + 4352 < 37376 := by have := n.isLt; omega
  have e : n = ⟨4352 + (j 1 : ℕ), by omega⟩ := Fin.ext hn
  rw [e]
  pointwise
theorem slice_k (z : FVec Ideal S6144x37376 .f32) (j : S6144x256.Idx) (n : Fin 37376) (hn : n.val = 4096 + (j 1 : ℕ)) :
    extractStridedSlice S6144x256 ![0, 4096] z slices_S6144x37376_o0_4096_S6144x256 j = z (ix2 (j 0) n) := by
  have hl : (j 1 : ℕ) + 4096 < 37376 := by have := n.isLt; omega
  have e : n = ⟨4096 + (j 1 : ℕ), by omega⟩ := Fin.ext hn
  rw [e]
  pointwise
theorem slice_g (z : FVec Ideal S6144x37376 .f32) (j : S6144x16384.Idx) (n : Fin 37376) (hn : n.val = 4608 + (j 1 : ℕ)) :
    extractStridedSlice S6144x16384 ![0, 4608] z slices_S6144x37376_o0_4608_S6144x16384 j = z (ix2 (j 0) n) := by
  have hl : (j 1 : ℕ) + 4608 < 37376 := by have := n.isLt; omega
  have e : n = ⟨4608 + (j 1 : ℕ), by omega⟩ := Fin.ext hn
  rw [e]
  pointwise
theorem slice_u (z : FVec Ideal S6144x37376 .f32) (j : S6144x16384.Idx) (n : Fin 37376) (hn : n.val = 20992 + (j 1 : ℕ)) :
    extractStridedSlice S6144x16384 ![0, 20992] z slices_S6144x37376_o0_20992_S6144x16384 j = z (ix2 (j 0) n) := by
  have hl : (j 1 : ℕ) + 20992 < 37376 := by have := n.isLt; omega
  have e : n = ⟨20992 + (j 1 : ℕ), by omega⟩ := Fin.ext hn
  rw [e]
  pointwise

section
variable (v22 : FVec Ideal S6144x4096 .f32) (v36 : FVec Ideal S6144x1 .f32) (v38 v40 : IVec S6144x1 1)
  (w : FVec Ideal S4096x37376 .fp8e4m3) (ws : FVec Ideal S1x37376 .f32)

theorem pay13 : k0_pay13 (F := Ideal) v22 v36 v38 v40 w ws
    = VPART (k0_pay11 (F := Ideal) v22 v36 v38 v40) (k0_pay10 (F := Ideal) v36 v38 v40) w ws := by
  funext j
  exact (slice_v (k0_pay12 (F := Ideal) v22 v36 v38 v40 w ws) j ⟨4352 + (j 1 : ℕ), _⟩ rfl).trans (pay12 v22 v36 v38 v40 w ws _)

theorem pay14 : k0_pay14 (F := Ideal) v22 v36 v38 v40 w ws
    = PROJ 4608 (by norm_num) (k0_pay11 (F := Ideal) v22 v36 v38 v40) (k0_pay10 (F := Ideal) v36 v38 v40) w ws := by
  funext j
  exact (slice_g (k0_pay12 (F := Ideal) v22 v36 v38 v40 w ws) j (col 4608 (by norm_num) (j 1)) rfl).trans (pay12 v22 v36 v38 v40 w ws _)

theorem pay15 : k0_pay15 (F := Ideal) v22 v36 v38 v40 w ws
    = PROJ 20992 (by norm_num) (k0_pay11 (F := Ideal) v22 v36 v38 v40) (k0_pay10 (F := Ideal) v36 v38 v40) w ws := by
  funext j
  exact (slice_u (k0_pay12 (F := Ideal) v22 v36 v38 v40 w ws) j (col 20992 (by norm_num) (j 1)) rfl).trans (pay12 v22 v36 v38 v40 w ws _)

theorem pay26 : k0_pay26 (F := Ideal) (k0_pay14 (F := Ideal) v22 v36 v38 v40 w ws) (k0_pay15 (F := Ideal) v22 v36 v38 v40 w ws)
    = HID (k0_pay11 (F := Ideal) v22 v36 v38 v40) (k0_pay10 (F := Ideal) v36 v38 v40) w ws := by
  rw [pay14, pay15]; rfl
end

theorem pay20 (p : FVec Ideal S1x246 .f32) (u v : FVec Ideal S6144x256 .f32) :
    k0_pay20 (F := Ideal) p u v = CODE256 u (k0_pay19 (F := Ideal) p v) := rfl

theorem pay25 (v : FVec Ideal S6144x256 .f32) (a b : FVec Ideal S6144x1 .f32) (d : IVec S6144x1 1) :
    k0_pay25 (F := Ideal) v a b d = CODE256 v (k0_pay24 (F := Ideal) a b d) := rfl

theorem pay30 (p : FVec Ideal S1x246 .f32) (a b : FVec Ideal S6144x16384 .f32) :
    k0_pay30 (F := Ideal) (k0_pay28 (F := Ideal) p a b) (k0_pay29 (F := Ideal))
      = CODE16384 (k0_pay26 (F := Ideal) a b) (k0_pay27 (F := Ideal) p a b) := rfl

theorem pay31 (x : FVec Ideal S6144x4096 .bf16) (s : FVec Ideal S6144x1 .f32) (v u : FVec Ideal S6144x16384 .f32)
    (w : FVec Ideal S16384x4096 .fp8e4m3) (ws : FVec Ideal S1x4096 .f32) (j) :
    k0_pay31 (F := Ideal) (k0_pay4 (F := Ideal) x) s v u w ws j = DOWN (k0_pay30 (F := Ideal) v u) s w ws x j := by
  pointwise [k0_pay31, DOWN]
  simp only [pay4]

end Cert.ReferenceIdeal.Results
-- ==== Proof.Rot.lean ====
/- The reference's rotations, over any projection. -/
module

public import proofs.«01_k».proof.Proof.Ref
public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.ReferenceIdeal.Results
open Cert.ReferenceIdeal Cert.ReferenceIdeal.Gen
open Cert.Scale
open Cert.KernelIdeal.Value (XN HID PROJ DOWN ROWMAX0 ROWMAXK ZAT VPART KROT QROT rot clip col)

/-- The rotation of rows of 256. -/
def KR (u : FVec Ideal S6144x256 .f32) (co si : FVec Ideal S6144x128 .f32) : FVec Ideal S6144x256 .f32 :=
  concatenate S6144x256 1
    [⟨S6144x128, subf (mulf (extractStridedSlice S6144x128 ![0, 0] u slices_S6144x256_o0_0_S6144x128) co)
        (mulf (extractStridedSlice S6144x128 ![0, 128] u slices_S6144x256_o0_128_S6144x128) si)⟩,
     ⟨S6144x128, addf (mulf (extractStridedSlice S6144x128 ![0, 128] u slices_S6144x256_o0_128_S6144x128) co)
        (mulf (extractStridedSlice S6144x128 ![0, 0] u slices_S6144x256_o0_0_S6144x128) si)⟩]
    concatenates_S6144x128_S6144x128_S6144x256_d1

theorem kr (u : FVec Ideal S6144x256 .f32) (co si : FVec Ideal S6144x128 .f32) (j : S6144x256.Idx) :
    KR u co si j = rot (fun l => u (ix2 (j 0) l)) (fun l => co (ix2 (j 0) l)) (fun l => si (ix2 (j 0) l)) (j 1) := by
  pointwise [KR, rot]
  have hl : (j 1 : ℕ) < 256 := (j 1 : Fin 256).isLt
  split_ifs with h
  · simp only [Nat.add_comm 128]
  · have e : (ix2 (j 0) ⟨(j 1 : ℕ), hl⟩ : S6144x256.Idx) = j := by
      refine funext fun a => ?_
      fin_cases a <;> rfl
    simp only [Nat.add_sub_cancel' (not_lt.1 h), e]
  any_goals exact absurd rfl ‹_›

/-- The rotation of rows of sixteen groups of 256. -/
def QR (u : FVec Ideal S6144x16x256 .f32) (co si : FVec Ideal S6144x128 .f32) : FVec Ideal S6144x16x256 .f32 :=
  concatenate S6144x16x256 2
    [⟨S6144x16x128, subf
        (mulf (extractStridedSlice S6144x16x128 ![0, 0, 0] u slices_S6144x16x256_o0_0_0_S6144x16x128)
          (broadcastTo S6144x16x128 (shapeCast S6144x1x128 co shapeCasts_S6144x128_S6144x1x128) broadcasts_S6144x1x128_S6144x16x128))
        (mulf (extractStridedSlice S6144x16x128 ![0, 0, 128] u slices_S6144x16x256_o0_0_128_S6144x16x128)
          (broadcastTo S6144x16x128 (shapeCast S6144x1x128 si shapeCasts_S6144x128_S6144x1x128) broadcasts_S6144x1x128_S6144x16x128))⟩,
     ⟨S6144x16x128, addf
        (mulf (extractStridedSlice S6144x16x128 ![0, 0, 128] u slices_S6144x16x256_o0_0_128_S6144x16x128)
          (broadcastTo S6144x16x128 (shapeCast S6144x1x128 co shapeCasts_S6144x128_S6144x1x128) broadcasts_S6144x1x128_S6144x16x128))
        (mulf (extractStridedSlice S6144x16x128 ![0, 0, 0] u slices_S6144x16x256_o0_0_0_S6144x16x128)
          (broadcastTo S6144x16x128 (shapeCast S6144x1x128 si shapeCasts_S6144x128_S6144x1x128) broadcasts_S6144x1x128_S6144x16x128))⟩]
    concatenates_S6144x16x128_S6144x16x128_S6144x16x256_d2

theorem qr (u : FVec Ideal S6144x16x256 .f32) (co si : FVec Ideal S6144x128 .f32) (j : S6144x16x256.Idx) :
    QR u co si j = rot (fun l => u (ix3 (j 0) (j 1) l)) (fun l => co (ix2 (j 0) l)) (fun l => si (ix2 (j 0) l)) (j 2) := by
  pointwise [QR, rot]
  have hl : (j 2 : ℕ) < 256 := (j 2 : Fin 256).isLt
  split_ifs with h
  · simp only [Nat.add_comm 128]
  · have e : (ix3 (j 0) (j 1) ⟨(j 2 : ℕ), hl⟩ : S6144x16x256.Idx) = j := by
      refine funext fun a => ?_
      fin_cases a <;> rfl
    simp only [Nat.add_sub_cancel' (not_lt.1 h), e]
  any_goals exact absurd rfl ‹_›

/-- The rows in sixteen groups. -/
theorem split16 (z : FVec Ideal S6144x37376 .f32) (j : S6144x16x256.Idx) :
    shapeCast S6144x16x256 (extractStridedSlice S6144x4096 ![0, 0] z slices_S6144x37376_o0_0_S6144x4096) shapeCasts_S6144x4096_S6144x16x256 j
      = z (ix2 (j 0) ⟨(j 1 : ℕ) * 256 + (j 2 : ℕ), by
        have h1 : (j 1 : ℕ) < 16 := (j 1 : Fin 16).isLt
        have h2 : (j 2 : ℕ) < 256 := (j 2 : Fin 256).isLt
        omega⟩) := by
  pointwise

/-- The sixteen groups joined. -/
theorem join16 (u : FVec Ideal S6144x16x256 .f32) (j : S6144x4096.Idx) :
    k0_pay32 (F := Ideal) u j = u (ix3 (j 0) ⟨(j 1 : ℕ) / 256, by
        have h1 : (j 1 : ℕ) < 4096 := (j 1 : Fin 4096).isLt
        omega⟩ ⟨(j 1 : ℕ) % 256, Nat.mod_lt _ (by norm_num)⟩) := by
  pointwise [k0_pay32]

section
variable (v22 : FVec Ideal S6144x4096 .f32) (v36 : FVec Ideal S6144x1 .f32) (v38 v40 : IVec S6144x1 1)
  (w : FVec Ideal S4096x37376 .fp8e4m3) (ws : FVec Ideal S1x37376 .f32) (co si : FVec Ideal S6144x128 .f32)

theorem pay17_eq : k0_pay17 (F := Ideal) co si v22 v36 v38 v40 w ws
    = KR (extractStridedSlice S6144x256 ![0, 4096] (k0_pay12 (F := Ideal) v22 v36 v38 v40 w ws) slices_S6144x37376_o0_4096_S6144x256) co si := rfl

theorem pay16_eq : k0_pay16 (F := Ideal) co si v22 v36 v38 v40 w ws
    = QR (shapeCast S6144x16x256 (extractStridedSlice S6144x4096 ![0, 0] (k0_pay12 (F := Ideal) v22 v36 v38 v40 w ws)
    slices_S6144x37376_o0_0_S6144x4096) shapeCasts_S6144x4096_S6144x16x256) co si := rfl
end

theorem rot_congr {u u' : Fin 256 → EReal} (h : ∀ l, u l = u' l) (c s : Fin 128 → EReal) (l : Fin 256) : rot u c s l = rot u' c s l :=
  congrArg (fun f => rot f c s l) (funext h)

theorem krot (z : FVec Ideal S6144x37376 .f32) (xc : FVec Ideal S6144x4096 .fp8e4m3) (xs : FVec Ideal S6144x1 .f32)
    (w : FVec Ideal S4096x37376 .fp8e4m3) (ws : FVec Ideal S1x37376 .f32) (co si : FVec Ideal S6144x128 .f32)
    (hz : ∀ (r : Fin 6144) (n : Fin 37376), z (ix2 r n) = ZAT xc xs w ws r n) :
    KR (extractStridedSlice S6144x256 ![0, 4096] z slices_S6144x37376_o0_4096_S6144x256) co si = KROT xc xs w ws co si := by
  funext j
  rw [kr]
  unfold KROT
  refine rot_congr (fun l => ?_) _ _ _
  rw [slice_k z (ix2 (j 0) l) ⟨4096 + l.val, by omega⟩ rfl]
  exact hz _ _

theorem qrot (z : FVec Ideal S6144x37376 .f32) (xc : FVec Ideal S6144x4096 .fp8e4m3) (xs : FVec Ideal S6144x1 .f32)
    (w : FVec Ideal S4096x37376 .fp8e4m3) (ws : FVec Ideal S1x37376 .f32) (co si : FVec Ideal S6144x128 .f32)
    (hz : ∀ (r : Fin 6144) (n : Fin 37376), z (ix2 r n) = ZAT xc xs w ws r n) :
    k0_pay32 (F := Ideal) (QR (shapeCast S6144x16x256 (extractStridedSlice S6144x4096 ![0, 0] z
      slices_S6144x37376_o0_0_S6144x4096) shapeCasts_S6144x4096_S6144x16x256) co si) = QROT xc xs w ws co si := by
  funext j
  rw [join16, qr]
  unfold QROT
  refine rot_congr (fun l => ?_) _ _ _
  rw [split16]
  exact hz _ _

section
variable (v22 : FVec Ideal S6144x4096 .f32) (v36 : FVec Ideal S6144x1 .f32) (v38 v40 : IVec S6144x1 1)
  (w : FVec Ideal S4096x37376 .fp8e4m3) (ws : FVec Ideal S1x37376 .f32) (co si : FVec Ideal S6144x128 .f32)

theorem pay17 : k0_pay17 (F := Ideal) co si v22 v36 v38 v40 w ws
    = KROT (k0_pay11 (F := Ideal) v22 v36 v38 v40) (k0_pay10 (F := Ideal) v36 v38 v40) w ws co si :=
  (pay17_eq v22 v36 v38 v40 w ws co si).trans (krot _ _ _ _ _ _ _ fun r n => pay12 v22 v36 v38 v40 w ws (ix2 r n))

theorem pay32 : k0_pay32 (F := Ideal) (k0_pay16 (F := Ideal) co si v22 v36 v38 v40 w ws)
    = QROT (k0_pay11 (F := Ideal) v22 v36 v38 v40) (k0_pay10 (F := Ideal) v36 v38 v40) w ws co si :=
  (congrArg (k0_pay32 (F := Ideal)) (pay16_eq v22 v36 v38 v40 w ws co si)).trans
    (qrot _ _ _ _ _ _ _ fun r n => pay12 v22 v36 v38 v40 w ws (ix2 r n))
end

end Cert.ReferenceIdeal.Results
-- ==== Proof.Match.lean ====
/- The reference's ten results, in the terms the kernel's results are stated in. -/
module

public import proofs.«01_k».proof.Proof.Rot
public import Idealize.ShloMosaic.Lib.Pipeline.ValueKit
public import Idealize.ShloMosaic.Lib.Pointwise
public import proofs.«01_k».proof.Proof.Run
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.ReferenceIdeal.Results
open Cert.ReferenceIdeal Cert.ReferenceIdeal.Gen
open Cert.Scale

open Cert.KernelIdeal.Value (XN HID PROJ DOWN ROWMAX0 ROWMAXK ZAT VPART KROT QROT KCODES KSCALE ANG ROWMAX2 LANEMAX XSCALE XCODES HSCALE HCODES clip lane)

/-! ## The largest magnitude of a row, by groups of 128 columns -/

theorem ofBits_neg_inf : Ideal.ofBits .f32 0xFF800000#32 = (⊥ : EReal) := by
  simp [Ideal.ofBits, Ideal.ieee]

theorem absf_nonneg (x : EReal) : 0 ≤ FloatOps.absf (F := Ideal) (φ := .f32) x := by
  show (0 : EReal) ≤ max x (-x)
  rcases le_total 0 x with h | h
  · exact le_max_of_le_left h
  · exact le_max_of_le_right (by simpa using EReal.neg_le_neg_iff.2 h)

theorem fold_max_le {ι : Type*} [Fintype ι] (b : EReal) (f : ι → EReal) (z : EReal) :
    Finset.univ.fold max b f ≤ z ↔ b ≤ z ∧ ∀ k, f k ≤ z := by
  simp [Finset.fold_max_le]

theorem lanemax_fold (f : Fin 16384 → EReal) (h0 : ∀ k, 0 ≤ f k) :
    (Finset.univ.fold max ⊥ fun l : Fin 128 => Finset.univ.fold max 0 fun k : Fin 128 => f (lane k l))
      = Finset.univ.fold max ⊥ f := by
  refine eq_of_forall_ge_iff (α := EReal) fun z => ?_
  simp only [fold_max_le, bot_le, true_and]
  constructor
  · intro h k
    have := (h ⟨k.val % 128, Nat.mod_lt _ (by norm_num)⟩).2 ⟨k.val / 128, by have := k.isLt; omega⟩
    have e : lane ⟨k.val / 128, by have := k.isLt; omega⟩ ⟨k.val % 128, Nat.mod_lt _ (by norm_num)⟩ = k :=
      Fin.ext (by show k.val / 128 * 128 + k.val % 128 = k.val; omega)
    rwa [e] at this
  · exact fun h l => ⟨(h0 (lane 0 l)).trans (h _), fun k => h _⟩

theorem rowmax2_lanemax (h : FVec Ideal S6144x16384 .f32) (r : Fin 6144) : ROWMAX2 (LANEMAX h) r = HMAX h r := by
  unfold ROWMAX2 HMAX
  rw [ofBits_neg_inf]
  exact congrArg (· * Ideal.ofBits .f32 0x3B124925#32) (lanemax_fold (fun k => absf h (ix2 r k)) fun k => absf_nonneg _)

theorem eta2 {n m : ℕ} (j : Shape.Idx ⟨2, ![n, m]⟩) : (ix2 (j 0) (j 1) : Shape.Idx ⟨2, ![n, m]⟩) = j := by
  refine funext fun a => ?_
  fin_cases a <;> rfl

theorem xcodes_apply (v : FVec Ideal S6144x4096 .f32) (j : S6144x4096.Idx) :
    XCODES v j = clip (v j * kinv (expo (ROWMAX0 v (j 0)))) :=
  congrArg (fun i => clip (v i * kinv (expo (ROWMAX0 v (j 0))))) (eta2 (n := 6144) (m := 4096) j)

theorem kcodes_apply (v : FVec Ideal S6144x256 .f32) (j : S6144x256.Idx) :
    KCODES v j = clip (v j * kinv (expo (ROWMAXK v (j 0)))) :=
  congrArg (fun i => clip (v i * kinv (expo (ROWMAXK v (j 0))))) (eta2 (n := 6144) (m := 256) j)

theorem hcodes_apply (h : FVec Ideal S6144x16384 .f32) (a : FVec Ideal Cert.KernelIdeal.S6144x128 .f32) (j : S6144x16384.Idx) :
    HCODES h a j = clip (h j * kinv (expo (ROWMAX2 a (j 0)))) :=
  congrArg (fun i => clip (h i * kinv (expo (ROWMAX2 a (j 0))))) (eta2 (n := 6144) (m := 16384) j)

theorem hscale_apply (a : FVec Ideal Cert.KernelIdeal.S6144x128 .f32) (j : S6144x1.Idx) : HSCALE a j = kscale (expo (ROWMAX2 a (j 0))) := rfl

/-! ## The results of the body, as functions of its operands -/

section
variable (p : FVec Ideal S1x246 .f32) (hP : ∀ k : Fin 246, p (ix2 0 k) = (((2 : ℝ) ^ ((k.val : ℤ) - 125) : ℝ) : EReal))
include hP

theorem tail4096 (v : FVec Ideal S6144x4096 .f32) : TAIL p (AMAX4096 v) = XSCALE v := by
  funext j
  rw [tail_apply, amax4096]
  exact (kscale_kinv _ hP _).1.symm
theorem code4096_eq (v : FVec Ideal S6144x4096 .f32) : CODE4096 v (TAIL p (AMAX4096 v)) = XCODES v := by
  funext j
  rw [code4096, tail_apply, amax4096, xcodes_apply]
  exact congrArg (fun e => clip (v j * e)) (kscale_kinv _ hP _).2.symm
theorem tail256 (v : FVec Ideal S6144x256 .f32) : TAIL p (AMAX256 v) = KSCALE v := by
  funext j
  rw [tail_apply, amax256]
  exact (kscale_kinv _ hP _).1.symm
theorem code256_eq (v : FVec Ideal S6144x256 .f32) : CODE256 v (TAIL p (AMAX256 v)) = KCODES v := by
  funext j
  rw [code256, tail_apply, amax256, kcodes_apply]
  exact congrArg (fun e => clip (v j * e)) (kscale_kinv _ hP _).2.symm
theorem tail16384 (h : FVec Ideal S6144x16384 .f32) : TAIL p (AMAX16384 h) = HSCALE (LANEMAX h) := by
  funext j
  rw [tail_apply, amax16384, hscale_apply]
  exact (congrArg _ (rowmax2_lanemax _ _).symm).trans (kscale_kinv _ hP _).1.symm
theorem code16384_eq (h : FVec Ideal S6144x16384 .f32) : CODE16384 h (TAIL p (AMAX16384 h)) = HCODES h (LANEMAX h) := by
  funext j
  rw [code16384, tail_apply, amax16384, hcodes_apply]
  exact congrArg (fun e => clip (h j * e)) ((congrArg (fun e => Ideal.div 1 (rscale _ e)) (rowmax2_lanemax _ _).symm).trans
    (kscale_kinv _ hP _).2.symm)
end

theorem pay5_eq (x : FVec Ideal S6144x4096 .bf16) (g : FVec Ideal S1x4096 .f32) : k0_pay5 (F := Ideal) x g = XN x g := funext (pay5 x g)

/-! ## The ten arrays after the run -/

section
variable (m : (ℓ : Loc nD τ sig) → Buf (Elt Ideal) ℓ) (c : Dev nD)

/-- The rows. -/
abbrev RX : FVec Ideal S6144x4096 .bf16 := shapeCast S6144x4096 (m ((c : Thread nD τ).loc main_arg0)) shapeCasts_S3x2048x4096_S6144x4096
/-- The weight of the normalisation, a row. -/
abbrev RG : FVec Ideal S1x4096 .f32 := shapeCast S1x4096 (m ((c : Thread nD τ).loc main_arg2)) shapeCasts_S4096_S1x4096
/-- The first weight. -/
abbrev RW : FVec Ideal S4096x37376 .fp8e4m3 := m ((c : Thread nD τ).loc main_arg3)
/-- The column scales of the first weight. -/
abbrev RWS : FVec Ideal S1x37376 .f32 := shapeCast S1x37376 (m ((c : Thread nD τ).loc main_arg4)) shapeCasts_S37376_S1x37376
/-- The second weight. -/
abbrev RWD : FVec Ideal S16384x4096 .fp8e4m3 := m ((c : Thread nD τ).loc main_arg5)
/-- The column scales of the second weight. -/
abbrev RWDS : FVec Ideal S1x4096 .f32 := shapeCast S1x4096 (m ((c : Thread nD τ).loc main_arg6)) shapeCasts_S4096_S1x4096
/-- The cosines of the angles. -/
abbrev RCO : FVec Ideal S6144x128 .f32 := Host.cos (ANG (m ((c : Thread nD τ).loc main_arg1)))
/-- The sines of the angles. -/
abbrev RSI : FVec Ideal S6144x128 .f32 := Host.sin (ANG (m ((c : Thread nD τ).loc main_arg1)))
/-- The table of powers of two. -/
abbrev RP : FVec Ideal S1x246 .f32 :=
  shapeCast S1x246 (fun i => FloatOps.ofBits (F := Ideal) .f32 (lit0 (S246.rowMajor i))) shapeCasts_S246_S1x246

theorem lit0_eq : ∀ k : Fin 246, lit0 k = IntOp.shli .vector (BitVec.ofNat 32 (k.val + 2)) 23#32 := by decide +kernel

theorem powers (k : Fin 246) : RP (ix2 0 k) = (((2 : ℝ) ^ ((k.val : ℤ) - 125) : ℝ) : EReal) := by
  have h : RP (ix2 0 k) = Ideal.ofBits .f32 (lit0 k) := by
    pointwise [RP]
    exact congrArg (fun e => Ideal.ofBits .f32 (lit0 e)) (Fin.ext (by simp [Shape.rowMajor_val_one]))
  rw [h, lit0_eq, ofBits_shift (k.val + 2) (by omega) (by have := k.isLt; omega)]
  have : ((k.val + 2 : ℕ) : ℤ) - 127 = (k.val : ℤ) - 125 := by push_cast; ring
  rw [this]

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem blk0 (t : Fin cfg0.N) : (iblk m c 0 t : FVec Ideal S6144x4096 .bf16) = RX m c := by
  funext y; blk_point [iblk, idx0 t]
theorem blk1 (t : Fin cfg0.N) : (iblk m c 1 t : FVec Ideal S1x4096 .f32) = RG m c := by
  funext y; blk_point [iblk, idx0 t]
theorem blk2 (t : Fin cfg0.N) : (iblk m c 2 t : FVec Ideal S4096x37376 .fp8e4m3) = RW m c := by
  funext y; blk_point [iblk, idx0 t]
theorem blk3 (t : Fin cfg0.N) : (iblk m c 3 t : FVec Ideal S1x37376 .f32) = RWS m c := by
  funext y; blk_point [iblk, idx0 t]
theorem blk4 (t : Fin cfg0.N) : (iblk m c 4 t : FVec Ideal S16384x4096 .fp8e4m3) = RWD m c := by
  funext y; blk_point [iblk, idx0 t]
theorem blk5 (t : Fin cfg0.N) : (iblk m c 5 t : FVec Ideal S1x4096 .f32) = RWDS m c := by
  funext y; blk_point [iblk, idx0 t]
theorem V_main_v19 : V m c main_v19 = RCO m c := by
  simp only [V, StableHlo.after_cons, StableHlo.after_nil]; after_results_simp; rfl
theorem blk6 (t : Fin cfg0.N) : (iblk m c 6 t : FVec Ideal S6144x128 .f32) = RCO m c := by
  have e : ∀ y, (iblk m c 6 t : FVec Ideal S6144x128 .f32) y = (V m c main_v19 : FVec Ideal S6144x128 .f32) y := fun y => by
    blk_point [iblk, idx0 t]
  exact (funext e).trans (V_main_v19 m c)
theorem V_main_v20 : V m c main_v20 = RSI m c := by
  simp only [V, StableHlo.after_cons, StableHlo.after_nil]; after_results_simp; rfl
theorem blk7 (t : Fin cfg0.N) : (iblk m c 7 t : FVec Ideal S6144x128 .f32) = RSI m c := by
  have e : ∀ y, (iblk m c 7 t : FVec Ideal S6144x128 .f32) y = (V m c main_v20 : FVec Ideal S6144x128 .f32) y := fun y => by
    blk_point [iblk, idx0 t]
  exact (funext e).trans (V_main_v20 m c)
theorem blk8 (t : Fin cfg0.N) : (iblk m c 8 t : FVec Ideal S1x246 .f32) = RP := by
  funext y; blk_point [iblk, idx0 t]

theorem ld_0 (v : Vec Ideal S1x246 .f32) : (View.ld (Val := Elt Ideal) (e' := .f32) v r0_0 : Vec Ideal S1x246 .f32) = v :=
  View.ld_unit_lit _ v (by decide)
theorem ld_1 (v : Vec Ideal S6144x128 .f32) : (View.ld (Val := Elt Ideal) (e' := .f32) v r0_1 : Vec Ideal S6144x128 .f32) = v :=
  View.ld_unit_lit _ v (by decide)
theorem ld_2 (v : Vec Ideal S6144x4096 .bf16) : (View.ld (Val := Elt Ideal) (e' := .bf16) v r0_2 : Vec Ideal S6144x4096 .bf16) = v :=
  View.ld_unit_lit _ v (by decide)
theorem ld_3 (v : Vec Ideal S1x4096 .f32) : (View.ld (Val := Elt Ideal) (e' := .f32) v r0_3 : Vec Ideal S1x4096 .f32) = v :=
  View.ld_unit_lit _ v (by decide)
theorem ld_4 (v : Vec Ideal S4096x37376 .fp8e4m3) : (View.ld (Val := Elt Ideal) (e' := .fp8e4m3) v r0_4 : Vec Ideal S4096x37376 .fp8e4m3) = v :=
  View.ld_unit_lit _ v (by decide)
theorem ld_5 (v : Vec Ideal S1x37376 .f32) : (View.ld (Val := Elt Ideal) (e' := .f32) v r0_5 : Vec Ideal S1x37376 .f32) = v :=
  View.ld_unit_lit _ v (by decide)
theorem ld_6 (v : Vec Ideal S16384x4096 .fp8e4m3) : (View.ld (Val := Elt Ideal) (e' := .fp8e4m3) v r0_6 : Vec Ideal S16384x4096 .fp8e4m3) = v :=
  View.ld_unit_lit _ v (by decide)

section
variable (x0 : FVec Ideal S6144x4096 .bf16) (x1 : FVec Ideal S1x4096 .f32) (x2 : FVec Ideal S4096x37376 .fp8e4m3) (x3 : FVec Ideal S1x37376 .f32)
  (x4 : FVec Ideal S16384x4096 .fp8e4m3) (x5 : FVec Ideal S1x4096 .f32) (x6 x7 : FVec Ideal S6144x128 .f32) (x8 : FVec Ideal S1x246 .f32)
theorem pay33 : k0_pay33 (F := Ideal) x0 x1 x2 x3 x4 x5 x6 x7 x8 = x8 := by
  unfold k0_pay33; rw [ld_0, pay1]
theorem pay34 : k0_pay34 (F := Ideal) x0 x1 x2 x3 x4 x5 x6 x7 x8 = x6 := by
  unfold k0_pay34; rw [ld_1, pay2]
theorem pay35 : k0_pay35 (F := Ideal) x0 x1 x2 x3 x4 x5 x6 x7 x8 = x7 := by
  unfold k0_pay35; rw [ld_1, pay3]
theorem pay36 : k0_pay36 (F := Ideal) x0 x1 x2 x3 x4 x5 x6 x7 x8 = XN x0 x1 := by
  unfold k0_pay36; rw [ld_2, ld_3, pay5_eq]
theorem pay10' : k0_pay10 (F := Ideal) (k0_pay37 (F := Ideal) x0 x1 x2 x3 x4 x5 x6 x7 x8) (k0_pay38 (F := Ideal) x0 x1 x2 x3 x4 x5 x6 x7 x8) (k0_pay39 (F := Ideal) x0 x1 x2 x3 x4 x5 x6 x7 x8)
    = TAIL x8 (AMAX4096 (XN x0 x1)) := by
  unfold k0_pay37 k0_pay38 k0_pay39
  rw [ld_0, ld_2, ld_3, pay10_eq, pay1, pay5_eq]

variable (hQ : ∀ k : Fin 246, x8 (ix2 0 k) = (((2 : ℝ) ^ ((k.val : ℤ) - 125) : ℝ) : EReal))
include hQ
/-- The scales of the rows. -/
theorem xscale : k0_pay10 (F := Ideal) (k0_pay37 (F := Ideal) x0 x1 x2 x3 x4 x5 x6 x7 x8) (k0_pay38 (F := Ideal) x0 x1 x2 x3 x4 x5 x6 x7 x8) (k0_pay39 (F := Ideal) x0 x1 x2 x3 x4 x5 x6 x7 x8)
    = XSCALE (XN x0 x1) := by
  rw [pay10', tail4096 x8 hQ]
/-- The codes of the rows. -/
theorem xcodes : k0_pay11 (F := Ideal) (k0_pay36 (F := Ideal) x0 x1 x2 x3 x4 x5 x6 x7 x8) (k0_pay37 (F := Ideal) x0 x1 x2 x3 x4 x5 x6 x7 x8) (k0_pay38 (F := Ideal) x0 x1 x2 x3 x4 x5 x6 x7 x8) (k0_pay39 (F := Ideal) x0 x1 x2 x3 x4 x5 x6 x7 x8) = XCODES (XN x0 x1) := by
  rw [pay11, pay10', pay36, code4096_eq x8 hQ]
/-- The value. -/
theorem value : k0_pay40 (F := Ideal) x0 x1 x2 x3 x4 x5 x6 x7 x8 = VPART (XCODES (XN x0 x1)) (XSCALE (XN x0 x1)) x2 x3 := by
  unfold k0_pay40; rw [ld_4, ld_5, pay13, xcodes _ _ _ _ _ _ _ _ _ hQ, xscale _ _ _ _ _ _ _ _ _ hQ]
/-- The hidden layer. -/
theorem hidden : k0_pay26 (F := Ideal) (k0_pay41 (F := Ideal) x0 x1 x2 x3 x4 x5 x6 x7 x8) (k0_pay42 (F := Ideal) x0 x1 x2 x3 x4 x5 x6 x7 x8) = HID (XCODES (XN x0 x1)) (XSCALE (XN x0 x1)) x2 x3 := by
  unfold k0_pay41 k0_pay42; rw [ld_4, ld_5, pay26, xcodes _ _ _ _ _ _ _ _ _ hQ, xscale _ _ _ _ _ _ _ _ _ hQ]
/-- The key. -/
theorem key : k0_pay17 (F := Ideal) (k0_pay34 (F := Ideal) x0 x1 x2 x3 x4 x5 x6 x7 x8) (k0_pay35 (F := Ideal) x0 x1 x2 x3 x4 x5 x6 x7 x8) (k0_pay36 (F := Ideal) x0 x1 x2 x3 x4 x5 x6 x7 x8) (k0_pay37 (F := Ideal) x0 x1 x2 x3 x4 x5 x6 x7 x8) (k0_pay38 (F := Ideal) x0 x1 x2 x3 x4 x5 x6 x7 x8) (k0_pay39 (F := Ideal) x0 x1 x2 x3 x4 x5 x6 x7 x8) x2 x3 = KROT (XCODES (XN x0 x1)) (XSCALE (XN x0 x1)) x2 x3 x6 x7 := by
  rw [pay17, pay34, pay35, xcodes _ _ _ _ _ _ _ _ _ hQ, xscale _ _ _ _ _ _ _ _ _ hQ]
/-- The query. -/
theorem query : k0_pay32 (F := Ideal) (k0_pay16 (F := Ideal) (k0_pay34 (F := Ideal) x0 x1 x2 x3 x4 x5 x6 x7 x8) (k0_pay35 (F := Ideal) x0 x1 x2 x3 x4 x5 x6 x7 x8) (k0_pay36 (F := Ideal) x0 x1 x2 x3 x4 x5 x6 x7 x8) (k0_pay37 (F := Ideal) x0 x1 x2 x3 x4 x5 x6 x7 x8) (k0_pay38 (F := Ideal) x0 x1 x2 x3 x4 x5 x6 x7 x8) (k0_pay39 (F := Ideal) x0 x1 x2 x3 x4 x5 x6 x7 x8) x2 x3) = QROT (XCODES (XN x0 x1)) (XSCALE (XN x0 x1)) x2 x3 x6 x7 := by
  rw [pay32, pay34, pay35, xcodes _ _ _ _ _ _ _ _ _ hQ, xscale _ _ _ _ _ _ _ _ _ hQ]
theorem pay43 : k0_pay43 (F := Ideal) x0 x1 x2 x3 x4 x5 x6 x7 x8 = absf (KROT (XCODES (XN x0 x1)) (XSCALE (XN x0 x1)) x2 x3 x6 x7) := by
  unfold k0_pay43; rw [ld_4, ld_5]
  exact congrArg absf (key _ _ _ _ _ _ _ _ _ hQ)
theorem kscale : k0_pay19 (F := Ideal) (k0_pay33 (F := Ideal) x0 x1 x2 x3 x4 x5 x6 x7 x8) (k0_pay43 (F := Ideal) x0 x1 x2 x3 x4 x5 x6 x7 x8) = KSCALE (KROT (XCODES (XN x0 x1)) (XSCALE (XN x0 x1)) x2 x3 x6 x7) := by
  rw [pay43 _ _ _ _ _ _ _ _ _ hQ, pay33, pay19_eq, tail256 x8 hQ]
theorem kcodes : k0_pay20 (F := Ideal) (k0_pay33 (F := Ideal) x0 x1 x2 x3 x4 x5 x6 x7 x8) (KROT (XCODES (XN x0 x1)) (XSCALE (XN x0 x1)) x2 x3 x6 x7) (k0_pay43 (F := Ideal) x0 x1 x2 x3 x4 x5 x6 x7 x8) = KCODES (KROT (XCODES (XN x0 x1)) (XSCALE (XN x0 x1)) x2 x3 x6 x7) := by
  rw [pay20, pay43 _ _ _ _ _ _ _ _ _ hQ, pay33, pay19_eq, code256_eq x8 hQ]
theorem vtail : k0_pay24 (F := Ideal) (k0_pay44 (F := Ideal) x0 x1 x2 x3 x4 x5 x6 x7 x8) (k0_pay45 (F := Ideal) x0 x1 x2 x3 x4 x5 x6 x7 x8) (k0_pay46 (F := Ideal) x0 x1 x2 x3 x4 x5 x6 x7 x8)
    = TAIL x8 (AMAX256 (VPART (XCODES (XN x0 x1)) (XSCALE (XN x0 x1)) x2 x3)) := by
  unfold k0_pay44 k0_pay45 k0_pay46
  rw [pay33, value _ _ _ _ _ _ _ _ _ hQ, pay24_eq]
theorem vscale : k0_pay24 (F := Ideal) (k0_pay44 (F := Ideal) x0 x1 x2 x3 x4 x5 x6 x7 x8) (k0_pay45 (F := Ideal) x0 x1 x2 x3 x4 x5 x6 x7 x8) (k0_pay46 (F := Ideal) x0 x1 x2 x3 x4 x5 x6 x7 x8)
    = KSCALE (VPART (XCODES (XN x0 x1)) (XSCALE (XN x0 x1)) x2 x3) := by
  rw [vtail _ _ _ _ _ _ _ _ _ hQ, tail256 x8 hQ]
theorem vcodes : k0_pay25 (F := Ideal) (k0_pay40 (F := Ideal) x0 x1 x2 x3 x4 x5 x6 x7 x8) (k0_pay44 (F := Ideal) x0 x1 x2 x3 x4 x5 x6 x7 x8) (k0_pay45 (F := Ideal) x0 x1 x2 x3 x4 x5 x6 x7 x8) (k0_pay46 (F := Ideal) x0 x1 x2 x3 x4 x5 x6 x7 x8)
    = KCODES (VPART (XCODES (XN x0 x1)) (XSCALE (XN x0 x1)) x2 x3) := by
  rw [pay25, vtail _ _ _ _ _ _ _ _ _ hQ, value _ _ _ _ _ _ _ _ _ hQ, code256_eq x8 hQ]
theorem hscale : k0_pay47 (F := Ideal) x0 x1 x2 x3 x4 x5 x6 x7 x8 = HSCALE (LANEMAX (HID (XCODES (XN x0 x1)) (XSCALE (XN x0 x1)) x2 x3)) := by
  unfold k0_pay47
  rw [pay27_eq, hidden _ _ _ _ _ _ _ _ _ hQ, pay33, tail16384 x8 hQ]
theorem hcodes : k0_pay30 (F := Ideal) (k0_pay48 (F := Ideal) x0 x1 x2 x3 x4 x5 x6 x7 x8) (k0_pay49 (F := Ideal) x0 x1 x2 x3 x4 x5 x6 x7 x8) = HCODES (HID (XCODES (XN x0 x1)) (XSCALE (XN x0 x1)) x2 x3) (LANEMAX (HID (XCODES (XN x0 x1)) (XSCALE (XN x0 x1)) x2 x3)) := by
  unfold k0_pay48 k0_pay49
  rw [pay30, pay27_eq, hidden _ _ _ _ _ _ _ _ _ hQ, pay33, code16384_eq x8 hQ]
theorem yout : k0_pay31 (F := Ideal) (k0_pay4 (F := Ideal) x0) (k0_pay47 (F := Ideal) x0 x1 x2 x3 x4 x5 x6 x7 x8) (k0_pay48 (F := Ideal) x0 x1 x2 x3 x4 x5 x6 x7 x8) (k0_pay49 (F := Ideal) x0 x1 x2 x3 x4 x5 x6 x7 x8) x4 x5
    = DOWN (HCODES (HID (XCODES (XN x0 x1)) (XSCALE (XN x0 x1)) x2 x3) (LANEMAX (HID (XCODES (XN x0 x1)) (XSCALE (XN x0 x1)) x2 x3))) (HSCALE (LANEMAX (HID (XCODES (XN x0 x1)) (XSCALE (XN x0 x1)) x2 x3))) x4 x5 x0 := by
  funext j
  rw [pay31, hcodes _ _ _ _ _ _ _ _ _ hQ, hscale _ _ _ _ _ _ _ _ _ hQ]
end

/-- The normalised rows. -/
abbrev RXN : FVec Ideal S6144x4096 .f32 := XN (RX m c) (RG m c)
/-- The hidden layer. -/
abbrev RH : FVec Ideal S6144x16384 .f32 := HID (XCODES (RXN m c)) (XSCALE (RXN m c)) (RW m c) (RWS m c)
/-- The query. -/
abbrev RQ : FVec Ideal S6144x4096 .bf16 := QROT (XCODES (RXN m c)) (XSCALE (RXN m c)) (RW m c) (RWS m c) (RCO m c) (RSI m c)
/-- The key. -/
abbrev RK : FVec Ideal S6144x256 .f32 := KROT (XCODES (RXN m c)) (XSCALE (RXN m c)) (RW m c) (RWS m c) (RCO m c) (RSI m c)
/-- The value. -/
abbrev RV : FVec Ideal S6144x256 .f32 := VPART (XCODES (RXN m c)) (XSCALE (RXN m c)) (RW m c) (RWS m c)

theorem arr9 : (dats m 0 c).arrAt 9 cfg0.N = RQ m c := by
  refine (dats m 0 c).arrAt_eq_of_after_last 9 t0_0 (by decide +kernel) _ fun j => ?_
  blk_simp
  rw [after0_9, blk0, blk1, blk2, blk3, blk4, blk5, blk6, blk7, blk8]
  frame_out
  rw [query _ _ _ _ _ _ _ _ _ powers]
theorem arr10 : (dats m 0 c).arrAt 10 cfg0.N = DOWN (HCODES (RH m c) (LANEMAX (RH m c))) (HSCALE (LANEMAX (RH m c))) (RWD m c) (RWDS m c) (RX m c) := by
  refine (dats m 0 c).arrAt_eq_of_after_last 10 t0_0 (by decide +kernel) _ fun j => ?_
  blk_simp
  rw [after0_10, blk0, blk1, blk2, blk3, blk4, blk5, blk6, blk7, blk8]
  frame_out
  rw [yout _ _ _ _ _ _ _ _ _ powers]
theorem arr11 : (dats m 0 c).arrAt 11 cfg0.N = XCODES (RXN m c) := by
  refine (dats m 0 c).arrAt_eq_of_after_last 11 t0_0 (by decide +kernel) _ fun j => ?_
  blk_simp
  rw [after0_11, blk0, blk1, blk2, blk3, blk4, blk5, blk6, blk7, blk8]
  frame_out
  rw [xcodes _ _ _ _ _ _ _ _ _ powers]
theorem arr12 : (dats m 0 c).arrAt 12 cfg0.N = XSCALE (RXN m c) := by
  refine (dats m 0 c).arrAt_eq_of_after_last 12 t0_0 (by decide +kernel) _ fun j => ?_
  blk_simp
  rw [after0_12, blk0, blk1, blk2, blk3, blk4, blk5, blk6, blk7, blk8]
  frame_out
  rw [xscale _ _ _ _ _ _ _ _ _ powers]
theorem arr13 : (dats m 0 c).arrAt 13 cfg0.N = KCODES (RK m c) := by
  refine (dats m 0 c).arrAt_eq_of_after_last 13 t0_0 (by decide +kernel) _ fun j => ?_
  blk_simp
  rw [after0_13, blk0, blk1, blk2, blk3, blk4, blk5, blk6, blk7, blk8]
  frame_out
  rw [key _ _ _ _ _ _ _ _ _ powers, kcodes _ _ _ _ _ _ _ _ _ powers]
theorem arr14 : (dats m 0 c).arrAt 14 cfg0.N = KSCALE (RK m c) := by
  refine (dats m 0 c).arrAt_eq_of_after_last 14 t0_0 (by decide +kernel) _ fun j => ?_
  blk_simp
  rw [after0_14, blk0, blk1, blk2, blk3, blk4, blk5, blk6, blk7, blk8]
  frame_out
  rw [kscale _ _ _ _ _ _ _ _ _ powers]
theorem arr15 : (dats m 0 c).arrAt 15 cfg0.N = KCODES (RV m c) := by
  refine (dats m 0 c).arrAt_eq_of_after_last 15 t0_0 (by decide +kernel) _ fun j => ?_
  blk_simp
  rw [after0_15, blk0, blk1, blk2, blk3, blk4, blk5, blk6, blk7, blk8]
  frame_out
  rw [vcodes _ _ _ _ _ _ _ _ _ powers]
theorem arr16 : (dats m 0 c).arrAt 16 cfg0.N = KSCALE (RV m c) := by
  refine (dats m 0 c).arrAt_eq_of_after_last 16 t0_0 (by decide +kernel) _ fun j => ?_
  blk_simp
  rw [after0_16, blk0, blk1, blk2, blk3, blk4, blk5, blk6, blk7, blk8]
  frame_out
  rw [vscale _ _ _ _ _ _ _ _ _ powers]
theorem arr17 : (dats m 0 c).arrAt 17 cfg0.N = HCODES (RH m c) (LANEMAX (RH m c)) := by
  refine (dats m 0 c).arrAt_eq_of_after_last 17 t0_0 (by decide +kernel) _ fun j => ?_
  blk_simp
  rw [after0_17, blk0, blk1, blk2, blk3, blk4, blk5, blk6, blk7, blk8]
  frame_out
  rw [hcodes _ _ _ _ _ _ _ _ _ powers]
theorem arr18 : (dats m 0 c).arrAt 18 cfg0.N = HSCALE (LANEMAX (RH m c)) := by
  refine (dats m 0 c).arrAt_eq_of_after_last 18 t0_0 (by decide +kernel) _ fun j => ?_
  blk_simp
  rw [after0_18, blk0, blk1, blk2, blk3, blk4, blk5, blk6, blk7, blk8]
  frame_out
  rw [hscale _ _ _ _ _ _ _ _ _ powers]
end

end Cert.ReferenceIdeal.Results
-- ==== Proof.RefRun.lean ====
/- The run of the reference: each result is what its one call leaves in the matching array, and the arguments are kept. -/
module

public import proofs.«01_k».proof.Proof.Gen.ReferenceIdeal.Frame
public import proofs.«01_k».proof.Proof.Scale
public import Idealize.ShloMosaic.Lib.Claim

@[expose] public section

set_option maxRecDepth 16384

noncomputable section

open Idealize.ShloMosaic Idealize.ShloMosaic.TcCoe Idealize.SL.Sem
namespace Cert.ReferenceIdeal.Results
open Cert.ReferenceIdeal Cert.ReferenceIdeal.Gen

variable (m : (ℓ : Loc nD τ sig) → Buf (Elt Ideal) ℓ)

set_option maxHeartbeats 4000000 in
theorem run_blocks (ρ : Dev nD → PrngReg) :
    θ_run defs (onTc (τ := τ) (main (F := Ideal))) ⟨m, fun _ => 0, ρ⟩ (fun r => ∀ c : Dev nD,
      r.2.mem ((c.tc : Thread nD τ).loc main_v21_0) = (dats m 0 c).arrAt 9 cfg0.N
      ∧ r.2.mem ((c.tc : Thread nD τ).loc main_v21_1) = (dats m 0 c).arrAt 10 cfg0.N
      ∧ r.2.mem ((c.tc : Thread nD τ).loc main_v21_2) = (dats m 0 c).arrAt 11 cfg0.N
      ∧ r.2.mem ((c.tc : Thread nD τ).loc main_v21_3) = (dats m 0 c).arrAt 12 cfg0.N
      ∧ r.2.mem ((c.tc : Thread nD τ).loc main_v21_4) = (dats m 0 c).arrAt 13 cfg0.N
      ∧ r.2.mem ((c.tc : Thread nD τ).loc main_v21_5) = (dats m 0 c).arrAt 14 cfg0.N
      ∧ r.2.mem ((c.tc : Thread nD τ).loc main_v21_6) = (dats m 0 c).arrAt 15 cfg0.N
      ∧ r.2.mem ((c.tc : Thread nD τ).loc main_v21_7) = (dats m 0 c).arrAt 16 cfg0.N
      ∧ r.2.mem ((c.tc : Thread nD τ).loc main_v21_8) = (dats m 0 c).arrAt 17 cfg0.N
      ∧ r.2.mem ((c.tc : Thread nD τ).loc main_v21_9) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 9,
    (h c).1 10,
    (h c).1 11,
    (h c).1 12,
    (h c).1 13,
    (h c).1 14,
    (h c).1 15,
    (h c).1 16,
    (h c).1 17,
    (h c).1 18,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 2).trans (((dats m 0 c).arrAt_in 2 rfl _).trans ((A_eq m c 2).trans (V_main_arg3 m c))),
    ((h c).2 main_arg4 (Pipeline.mem_restRefs_of main_arg4 (by decide) (by decide))).trans (V_main_arg4 m c),
    ((h c).1 4).trans (((dats m 0 c).arrAt_in 4 rfl _).trans ((A_eq m c 4).trans (V_main_arg5 m c))),
    ((h c).2 main_arg6 (Pipeline.mem_restRefs_of main_arg6 (by decide) (by decide))).trans (V_main_arg6 m c)⟩) (run_main m ρ)

end Cert.ReferenceIdeal.Results
-- ==== Proof.lean ====
/- The claim: the three programs keep their arguments, the idealized kernel and the idealized reference end with equal results. -/
module

public import proofs.«01_k».proof.Defs
public import proofs.«01_k».proof.Proof.Bits.Frame
public import proofs.«01_k».proof.Proof.Ideal.Frame
public import proofs.«01_k».proof.Proof.Gen.ReferenceIdeal.Frame
public import proofs.«01_k».proof.Proof.Run
public import proofs.«01_k».proof.Proof.Match
public import proofs.«01_k».proof.Proof.RefRun
public import Idealize.ShloMosaic.Lib.Claim

@[expose] public section

set_option maxRecDepth 16384

noncomputable section

open Idealize.ShloMosaic Idealize.ShloMosaic.TcCoe Idealize.SL.Sem

namespace Cert.Proof

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments. -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m'} (h : Agree m m') (c : Dev Cert.KernelIdeal.nD)
include h

theorem x_eq : Cert.ReferenceIdeal.Results.RX m' c = Cert.KernelIdeal.Value.X m c :=
  congrArg (fun v => shapeCast Cert.KernelIdeal.S6144x4096 v Cert.KernelIdeal.Facts₀.shapeCasts_S3x2048x4096_S6144x4096) (h c).1
theorem g_eq : Cert.ReferenceIdeal.Results.RG m' c = Cert.KernelIdeal.Value.GM m c :=
  congrArg (fun v => shapeCast Cert.KernelIdeal.S1x4096 v Cert.KernelIdeal.Facts₀.shapeCasts_S4096_S1x4096) (h c).2.2.1
theorem w_eq : Cert.ReferenceIdeal.Results.RW m' c = Cert.KernelIdeal.Value.WI m c := (h c).2.2.2.1
theorem ws_eq : Cert.ReferenceIdeal.Results.RWS m' c = Cert.KernelIdeal.Value.WS m c :=
  congrArg (fun v => shapeCast Cert.KernelIdeal.S1x37376 v Cert.KernelIdeal.Facts₀.shapeCasts_S37376_S1x37376) (h c).2.2.2.2.1
theorem wd_eq : Cert.ReferenceIdeal.Results.RWD m' c = Cert.KernelIdeal.Value.WD m c := (h c).2.2.2.2.2.1
theorem wds_eq : Cert.ReferenceIdeal.Results.RWDS m' c = Cert.KernelIdeal.Value.WDS m c :=
  congrArg (fun v => shapeCast Cert.KernelIdeal.S1x4096 v Cert.KernelIdeal.Facts₀.shapeCasts_S4096_S1x4096) (h c).2.2.2.2.2.2
theorem cos_eq : Cert.ReferenceIdeal.Results.RCO m' c = Cert.KernelIdeal.Value.CO m c :=
  congrArg (fun p => Host.cos (Cert.KernelIdeal.Value.ANG p)) (h c).2.1
theorem sin_eq : Cert.ReferenceIdeal.Results.RSI m' c = Cert.KernelIdeal.Value.SI m c :=
  congrArg (fun p => Host.sin (Cert.KernelIdeal.Value.ANG p)) (h c).2.1
open Cert.KernelIdeal.Value (X GM WI WS WD WDS CO SI xn hid qq kk vv XN HID QROT KROT VPART DOWN LANEMAX XSCALE XCODES KSCALE KCODES HSCALE HCODES)

theorem xn_eq : Cert.ReferenceIdeal.Results.RXN m' c = xn m c :=
  congr_arg₂ XN (x_eq h c) (g_eq h c)
theorem hid_eq : Cert.ReferenceIdeal.Results.RH m' c = hid m c := by
  show HID (XCODES (Cert.ReferenceIdeal.Results.RXN m' c)) (XSCALE (Cert.ReferenceIdeal.Results.RXN m' c)) (Cert.ReferenceIdeal.Results.RW m' c) (Cert.ReferenceIdeal.Results.RWS m' c) = _
  rw [xn_eq h c, w_eq h c, ws_eq h c]; rfl
theorem query_eq : Cert.ReferenceIdeal.Results.RQ m' c = qq m c := by
  show QROT (XCODES (Cert.ReferenceIdeal.Results.RXN m' c)) (XSCALE (Cert.ReferenceIdeal.Results.RXN m' c)) (Cert.ReferenceIdeal.Results.RW m' c) (Cert.ReferenceIdeal.Results.RWS m' c) (Cert.ReferenceIdeal.Results.RCO m' c) (Cert.ReferenceIdeal.Results.RSI m' c) = _
  rw [xn_eq h c, w_eq h c, ws_eq h c, cos_eq h c, sin_eq h c]; rfl
theorem key_eq : Cert.ReferenceIdeal.Results.RK m' c = kk m c := by
  show KROT (XCODES (Cert.ReferenceIdeal.Results.RXN m' c)) (XSCALE (Cert.ReferenceIdeal.Results.RXN m' c)) (Cert.ReferenceIdeal.Results.RW m' c) (Cert.ReferenceIdeal.Results.RWS m' c) (Cert.ReferenceIdeal.Results.RCO m' c) (Cert.ReferenceIdeal.Results.RSI m' c) = _
  rw [xn_eq h c, w_eq h c, ws_eq h c, cos_eq h c, sin_eq h c]; rfl
theorem value_eq : Cert.ReferenceIdeal.Results.RV m' c = vv m c := by
  show VPART (XCODES (Cert.ReferenceIdeal.Results.RXN m' c)) (XSCALE (Cert.ReferenceIdeal.Results.RXN m' c)) (Cert.ReferenceIdeal.Results.RW m' c) (Cert.ReferenceIdeal.Results.RWS m' c) = _
  rw [xn_eq h c, w_eq h c, ws_eq h c]; rfl

theorem ref_q : (Cert.ReferenceIdeal.Gen.dats m' 0 c).arrAt 9 Cert.ReferenceIdeal.cfg0.N = qq m c :=
  (Cert.ReferenceIdeal.Results.arr9 m' c).trans (query_eq h c)
theorem ref_y : (Cert.ReferenceIdeal.Gen.dats m' 0 c).arrAt 10 Cert.ReferenceIdeal.cfg0.N = DOWN (HCODES (hid m c) (LANEMAX (hid m c))) (HSCALE (LANEMAX (hid m c))) (WD m c) (WDS m c) (X m c) := by
  refine (Cert.ReferenceIdeal.Results.arr10 m' c).trans ?_
  rw [hid_eq h c, wd_eq h c, wds_eq h c, x_eq h c]
theorem ref_xc : (Cert.ReferenceIdeal.Gen.dats m' 0 c).arrAt 11 Cert.ReferenceIdeal.cfg0.N = XCODES (xn m c) :=
  (Cert.ReferenceIdeal.Results.arr11 m' c).trans (congrArg XCODES (xn_eq h c))
theorem ref_xs : (Cert.ReferenceIdeal.Gen.dats m' 0 c).arrAt 12 Cert.ReferenceIdeal.cfg0.N = XSCALE (xn m c) :=
  (Cert.ReferenceIdeal.Results.arr12 m' c).trans (congrArg XSCALE (xn_eq h c))
theorem ref_kc : (Cert.ReferenceIdeal.Gen.dats m' 0 c).arrAt 13 Cert.ReferenceIdeal.cfg0.N = KCODES (kk m c) :=
  (Cert.ReferenceIdeal.Results.arr13 m' c).trans (congrArg KCODES (key_eq h c))
theorem ref_ks : (Cert.ReferenceIdeal.Gen.dats m' 0 c).arrAt 14 Cert.ReferenceIdeal.cfg0.N = KSCALE (kk m c) :=
  (Cert.ReferenceIdeal.Results.arr14 m' c).trans (congrArg KSCALE (key_eq h c))
theorem ref_vc : (Cert.ReferenceIdeal.Gen.dats m' 0 c).arrAt 15 Cert.ReferenceIdeal.cfg0.N = KCODES (vv m c) :=
  (Cert.ReferenceIdeal.Results.arr15 m' c).trans (congrArg KCODES (value_eq h c))
theorem ref_vs : (Cert.ReferenceIdeal.Gen.dats m' 0 c).arrAt 16 Cert.ReferenceIdeal.cfg0.N = KSCALE (vv m c) :=
  (Cert.ReferenceIdeal.Results.arr16 m' c).trans (congrArg KSCALE (value_eq h c))
theorem ref_hc : (Cert.ReferenceIdeal.Gen.dats m' 0 c).arrAt 17 Cert.ReferenceIdeal.cfg0.N = HCODES (hid m c) (LANEMAX (hid m c)) :=
  (Cert.ReferenceIdeal.Results.arr17 m' c).trans (congrArg (fun z => HCODES z (LANEMAX z)) (hid_eq h c))
theorem ref_hs : (Cert.ReferenceIdeal.Gen.dats m' 0 c).arrAt 18 Cert.ReferenceIdeal.cfg0.N = HSCALE (LANEMAX (hid m c)) :=
  (Cert.ReferenceIdeal.Results.arr18 m' c).trans (congrArg (fun z => HSCALE (LANEMAX z)) (hid_eq h c))

theorem reference_run (ρ : Dev Cert.ReferenceIdeal.nD → PrngReg) :
    θ_run Cert.ReferenceIdeal.defs (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v21_0) = qq m c
      ∧ r.2.mem ((c.tc : Thread Cert.ReferenceIdeal.nD Cert.ReferenceIdeal.τ).loc Cert.ReferenceIdeal.main_v21_1) = DOWN (HCODES (hid m c) (LANEMAX (hid m c))) (HSCALE (LANEMAX (hid m c))) (WD m c) (WDS m c) (X m c)
      ∧ r.2.mem ((c.tc : Thread Cert.ReferenceIdeal.nD Cert.ReferenceIdeal.τ).loc Cert.ReferenceIdeal.main_v21_2) = XCODES (xn m c)
      ∧ r.2.mem ((c.tc : Thread Cert.ReferenceIdeal.nD Cert.ReferenceIdeal.τ).loc Cert.ReferenceIdeal.main_v21_3) = XSCALE (xn m c)
      ∧ r.2.mem ((c.tc : Thread Cert.ReferenceIdeal.nD Cert.ReferenceIdeal.τ).loc Cert.ReferenceIdeal.main_v21_4) = KCODES (kk m c)
      ∧ r.2.mem ((c.tc : Thread Cert.ReferenceIdeal.nD Cert.ReferenceIdeal.τ).loc Cert.ReferenceIdeal.main_v21_5) = KSCALE (kk m c)
      ∧ r.2.mem ((c.tc : Thread Cert.ReferenceIdeal.nD Cert.ReferenceIdeal.τ).loc Cert.ReferenceIdeal.main_v21_6) = KCODES (vv m c)
      ∧ r.2.mem ((c.tc : Thread Cert.ReferenceIdeal.nD Cert.ReferenceIdeal.τ).loc Cert.ReferenceIdeal.main_v21_7) = KSCALE (vv m c)
      ∧ r.2.mem ((c.tc : Thread Cert.ReferenceIdeal.nD Cert.ReferenceIdeal.τ).loc Cert.ReferenceIdeal.main_v21_8) = HCODES (hid m c) (LANEMAX (hid m c))
      ∧ r.2.mem ((c.tc : Thread Cert.ReferenceIdeal.nD Cert.ReferenceIdeal.τ).loc Cert.ReferenceIdeal.main_v21_9) = HSCALE (LANEMAX (hid m c))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run _ _ _).mono (fun r q c => ⟨((q c).1).trans (ref_q h c),
    ((q c).2.1).trans (ref_y h c),
    ((q c).2.2.1).trans (ref_xc h c),
    ((q c).2.2.2.1).trans (ref_xs h c),
    ((q c).2.2.2.2.1).trans (ref_kc h c),
    ((q c).2.2.2.2.2.1).trans (ref_ks h c),
    ((q c).2.2.2.2.2.2.1).trans (ref_vc h c),
    ((q c).2.2.2.2.2.2.2.1).trans (ref_vs h c),
    ((q c).2.2.2.2.2.2.2.2.1).trans (ref_hc h c),
    ((q c).2.2.2.2.2.2.2.2.2.1).trans (ref_hs h c),
    (q c).2.2.2.2.2.2.2.2.2.2.1,
    (q c).2.2.2.2.2.2.2.2.2.2.2.1,
    (q c).2.2.2.2.2.2.2.2.2.2.2.2.1,
    (q c).2.2.2.2.2.2.2.2.2.2.2.2.2.1,
    (q c).2.2.2.2.2.2.2.2.2.2.2.2.2.2.1,
    (q c).2.2.2.2.2.2.2.2.2.2.2.2.2.2.2.1,
    (q c).2.2.2.2.2.2.2.2.2.2.2.2.2.2.2.2⟩) (Cert.ReferenceIdeal.Results.run_blocks m' ρ)

omit h in
variable (m) in
theorem kernel_run (ρ : Dev Cert.KernelIdeal.nD → PrngReg) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v21_0) = qq m c
      ∧ r.2.mem ((c.tc : Thread Cert.KernelIdeal.nD Cert.KernelIdeal.τ).loc Cert.KernelIdeal.main_v24) = DOWN (HCODES (hid m c) (LANEMAX (hid m c))) (HSCALE (LANEMAX (hid m c))) (WD m c) (WDS m c) (X m c)
      ∧ r.2.mem ((c.tc : Thread Cert.KernelIdeal.nD Cert.KernelIdeal.τ).loc Cert.KernelIdeal.main_v20_0) = XCODES (xn m c)
      ∧ r.2.mem ((c.tc : Thread Cert.KernelIdeal.nD Cert.KernelIdeal.τ).loc Cert.KernelIdeal.main_v20_1) = XSCALE (xn m c)
      ∧ r.2.mem ((c.tc : Thread Cert.KernelIdeal.nD Cert.KernelIdeal.τ).loc Cert.KernelIdeal.main_v21_1) = KCODES (kk m c)
      ∧ r.2.mem ((c.tc : Thread Cert.KernelIdeal.nD Cert.KernelIdeal.τ).loc Cert.KernelIdeal.main_v21_2) = KSCALE (kk m c)
      ∧ r.2.mem ((c.tc : Thread Cert.KernelIdeal.nD Cert.KernelIdeal.τ).loc Cert.KernelIdeal.main_v21_3) = KCODES (vv m c)
      ∧ r.2.mem ((c.tc : Thread Cert.KernelIdeal.nD Cert.KernelIdeal.τ).loc Cert.KernelIdeal.main_v21_4) = KSCALE (vv m c)
      ∧ r.2.mem ((c.tc : Thread Cert.KernelIdeal.nD Cert.KernelIdeal.τ).loc Cert.KernelIdeal.main_v23_0) = HCODES (hid m c) (LANEMAX (hid m c))
      ∧ r.2.mem ((c.tc : Thread Cert.KernelIdeal.nD Cert.KernelIdeal.τ).loc Cert.KernelIdeal.main_v23_1) = HSCALE (LANEMAX (hid m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run _ _ _).mono (fun r q c => ⟨((q c).1).trans (Cert.KernelIdeal.Value.out_q m ρ c),
    ((q c).2.1).trans (Cert.KernelIdeal.Value.out_y m ρ c),
    ((q c).2.2.1).trans (Cert.KernelIdeal.Value.out_xc m ρ c),
    ((q c).2.2.2.1).trans (Cert.KernelIdeal.Value.out_xs m ρ c),
    ((q c).2.2.2.2.1).trans (Cert.KernelIdeal.Value.out_kc m ρ c),
    ((q c).2.2.2.2.2.1).trans (Cert.KernelIdeal.Value.out_ks m ρ c),
    ((q c).2.2.2.2.2.2.1).trans (Cert.KernelIdeal.Value.out_vc m ρ c),
    ((q c).2.2.2.2.2.2.2.1).trans (Cert.KernelIdeal.Value.out_vs m ρ c),
    ((q c).2.2.2.2.2.2.2.2.1).trans (Cert.KernelIdeal.Value.out_hc m ρ c),
    ((q c).2.2.2.2.2.2.2.2.2.1).trans (Cert.KernelIdeal.Value.out_hs m ρ c),
    (q c).2.2.2.2.2.2.2.2.2.2.1,
    (q c).2.2.2.2.2.2.2.2.2.2.2.1,
    (q c).2.2.2.2.2.2.2.2.2.2.2.2.1,
    (q c).2.2.2.2.2.2.2.2.2.2.2.2.2.1,
    (q c).2.2.2.2.2.2.2.2.2.2.2.2.2.2.1,
    (q c).2.2.2.2.2.2.2.2.2.2.2.2.2.2.2.1,
    (q c).2.2.2.2.2.2.2.2.2.2.2.2.2.2.2.2⟩) (Cert.KernelIdeal.Value.run_values m ρ)
end

open Cert.KernelIdeal.Value (X WD WDS xn hid qq kk vv DOWN LANEMAX XSCALE XCODES KSCALE KCODES HSCALE HCODES)

theorem algebraic : Cert.algebraic_KernelIdeal_ReferenceIdeal := by
  intro m g m' g' _ h
  exact ⟨fun c => qq m c,
    fun c => DOWN (HCODES (hid m c) (LANEMAX (hid m c))) (HSCALE (LANEMAX (hid m c))) (WD m c) (WDS m c) (X m c),
    fun c => XCODES (xn m c),
    fun c => XSCALE (xn m c),
    fun c => KCODES (kk m c),
    fun c => KSCALE (kk m c),
    fun c => KCODES (vv m c),
    fun c => KSCALE (vv m c),
    fun c => HCODES (hid m c) (LANEMAX (hid m c)),
    fun c => HSCALE (LANEMAX (hid m c)),
    kernel_run m g, reference_run (m := m) h g'⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ,
    trivial, algebraic⟩

end Cert.Proof
